-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_nonneg [hPre_nonneg : Cert.Pre_nonneg.Facts] (m : (ℓ : Loc Cert.KernelIdeal.nD Cert.KernelIdeal.τ Cert.KernelIdeal.sig) → Buf (Elt Ideal) ℓ) : Prop :=
  ∀ c : Dev Cert.KernelIdeal.nD,
    (Cert.Pre_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_nonneg [hPre_nonneg : Cert.Pre_nonneg.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_nonneg.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_nonneg [hKernelIdeal : Cert.KernelIdeal.Facts] [hPre_nonneg : Cert.Pre_nonneg.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_nonneg m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_nonneg [hReferenceIdeal : Cert.ReferenceIdeal.Facts] [hPre_nonneg : Cert.Pre_nonneg.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_nonneg m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_nonneg [hKernelIdeal : Cert.KernelIdeal.Facts] [hReferenceIdeal : Cert.ReferenceIdeal.Facts] [hPre_nonneg : Cert.Pre_nonneg.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_nonneg m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_nonneg : Cert.Pre_nonneg.Facts),
    quiescent_Kernel (hKernel := hKernel)
    ∧ quiescent_KernelIdeal (hKernelIdeal := hKernelIdeal)
    ∧ quiescent_KernelIdeal_pre_nonneg (hKernelIdeal := hKernelIdeal) (hPre_nonneg := hPre_nonneg)
    ∧ quiescent_ReferenceIdeal (hReferenceIdeal := hReferenceIdeal)
    ∧ quiescent_ReferenceIdeal_pre_nonneg (hReferenceIdeal := hReferenceIdeal) (hPre_nonneg := hPre_nonneg)
    ∧ preserves_Kernel_KernelIdeal
    ∧ algebraic_KernelIdeal_ReferenceIdeal_pre_nonneg (hKernelIdeal := hKernelIdeal) (hReferenceIdeal := hReferenceIdeal) (hPre_nonneg := hPre_nonneg)
-- ==== Pre_nonneg.lean ====
abbrev S32x17x256x256 : Shape := ⟨4, ![32, 17, 256, 256]⟩
abbrev S32 : Shape := ⟨1, ![32]⟩
abbrev S_ : Shape := ⟨0, ![]⟩

class Facts : Prop where
  bcast_S_S32x17x256x256 : S_.BroadcastsInDim S32x17x256x256 (![] : Fin 0 → Fin S32x17x256x256.rank)
  reducesTo_S32x17x256x256_S_d0_1_2_3 : S32x17x256x256.ReducesTo [0, 1, 2, 3] S_
  h_S_ : 0 < S_.numel

variable [Facts]

def fn {F : FTy → Type} [FloatOps F] (main_arg0 : FVec F S32x17x256x256 .f32) (main_arg1 : FVec F S32x17x256x256 .f32) (main_arg2 : IVec S32 32) : IVec S_ 1 :=
  let main_cst : FVec F S_ .f32 := constant S_ .f32 0x00000000#32
  let main_v0 : FVec F S32x17x256x256 .f32 := broadcastInDim S32x17x256x256 ![] bcast_S_S32x17x256x256 main_cst
  let main_v1 : IVec S32x17x256x256 1 := cmpf .oge main_arg1 main_v0
  let main_c : IVec S_ 1 := constantI S_ 1 1#1
  let main_v2 : IVec S_ 1 := (fun x v => Host.reduce IntOp.andi x v reducesTo_S32x17x256x256_S_d0_1_2_3 h_S_) main_v1 main_c
  main_v2
-- ==== Kernel.lean ====
abbrev S32x17x256x256 : Shape := ⟨4, ![32, 17, 256, 256]⟩
abbrev S32 : Shape := ⟨1, ![32]⟩
abbrev S544x512x128 : Shape := ⟨3, ![544, 512, 128]⟩
abbrev S1x1 : Shape := ⟨2, ![1, 1]⟩
abbrev S_ : Shape := ⟨0, ![]⟩
abbrev S3x17x512x128 : Shape := ⟨4, ![3, 17, 512, 128]⟩
abbrev S3 : Shape := ⟨1, ![3]⟩
abbrev S1 : Shape := ⟨1, ![1]⟩
abbrev S1x17x512x128 : Shape := ⟨4, ![1, 17, 512, 128]⟩
abbrev S17x512x128 : Shape := ⟨3, ![17, 512, 128]⟩
abbrev S17x1 : Shape := ⟨2, ![17, 1]⟩
abbrev S1x1x512x128 : Shape := ⟨4, ![1, 1, 512, 128]⟩
abbrev S512x128 : Shape := ⟨2, ![512, 128]⟩
abbrev S128 : Shape := ⟨1, ![128]⟩
abbrev S1x128 : Shape := ⟨2, ![1, 128]⟩
abbrev S17x128 : Shape := ⟨2, ![17, 128]⟩
abbrev S17 : Shape := ⟨1, ![17]⟩

abbrev nBuf : Space → Nat
  | .hbm => 7
  | .vmem => 3
  | .smem => 1
  | _ => 0

abbrev bufTy : (tb : Table) → Fin (tcTables nBuf tb) → BufTy
  | .hbm, ⟨0, _⟩ => ⟨S32x17x256x256, .f32⟩
  | .hbm, ⟨1, _⟩ => ⟨S32x17x256x256, .f32⟩
  | .hbm, ⟨2, _⟩ => ⟨S32, .i32⟩
  | .hbm, ⟨3, _⟩ => ⟨S544x512x128, .f32⟩
  | .hbm, ⟨4, _⟩ => ⟨S544x512x128, .f32⟩
  | .hbm, ⟨5, _⟩ => ⟨S1x1, .f32⟩
  | .hbm, ⟨6, _⟩ => ⟨S_, .f32⟩
  | .local _ .vmem, ⟨0, _⟩ => ⟨S1x1, .f32⟩
  | .local _ .vmem, ⟨1, _⟩ => ⟨S3x17x512x128, .f32⟩
  | .local _ .vmem, ⟨2, _⟩ => ⟨S3x17x512x128, .f32⟩
  | .local _ .smem, ⟨0, _⟩ => ⟨S32, .i32⟩
  | _, _ => ⟨S32x17x256x256, .f32⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev cc0_stg1_0 : Ref sig .tc := ⟨.vmem, 0, rfl⟩
abbrev cc0_scratch0 : Ref sig .tc := ⟨.vmem, 1, rfl⟩
abbrev cc0_scratch1 : Ref sig .tc := ⟨.vmem, 2, rfl⟩
abbrev cc0_stg0_0 : Ref sig .tc := ⟨.smem, 0, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

@[reducible] def k0_t1_loop : Scf.Loop 32 :=
  let c0_i32_30 : BitVec 32 := 0#32
  let c32_i32 : BitVec 32 := 32#32
  let v22 : BitVec 32 := Scalar.addi c0_i32_30 c32_i32
  let c1_i32_31 : BitVec 32 := 1#32
  ⟨c0_i32_30, v22, c1_i32_31⟩
def k0_cond1 (k0_t1 : Fin k0_t1_loop.trips) : BitVec 1 :=
  let c0_i32_30 : BitVec 32 := 0#32
  let c1_i32_31 : BitVec 32 := 1#32
  let arg8 : BitVec 32 := Scf.iv c0_i32_30 c1_i32_31 k0_t1
  let c3_i32_38 : BitVec 32 := 3#32
  let v36 : BitVec 32 := Scalar.addi arg8 c3_i32_38
  let c1_i32_39 : BitVec 32 := 1#32
  let v37 : BitVec 32 := Scalar.subi v36 c1_i32_39
  let c32_i32_40 : BitVec 32 := 32#32
  let v38 : BitVec 1 := Scalar.cmpi .slt v37 c32_i32_40
  let v39 : BitVec 32 := Scalar.extui v38
  let c0_i32_41 : BitVec 32 := 0#32
  let v40 : BitVec 1 := Scalar.cmpi .ne v39 c0_i32_41
  v40

def k0_off1 (k0_t1 : Fin k0_t1_loop.trips) : Fin 1 → Nat :=
  let c0_i32_30 : BitVec 32 := 0#32
  let c1_i32_31 : BitVec 32 := 1#32
  let arg8 : BitVec 32 := Scf.iv c0_i32_30 c1_i32_31 k0_t1
  let c3_i32_205 : BitVec 32 := 3#32
  let v309 : BitVec 32 := Scalar.addi arg8 c3_i32_205
  let c1_i32_206 : BitVec 32 := 1#32
  let v310 : BitVec 32 := Scalar.subi v309 c1_i32_206
  let c3_i32_207 : BitVec 32 := 3#32
  let v311 : BitVec 32 := Scalar.remsi v310 c3_i32_207
  ![v311.toNat]
def k0_off2 (k0_t1 : Fin k0_t1_loop.trips) : Fin 4 → Nat :=
  let c0_i32_30 : BitVec 32 := 0#32
  let c1_i32_31 : BitVec 32 := 1#32
  let arg8 : BitVec 32 := Scf.iv c0_i32_30 c1_i32_31 k0_t1
  let c3_i32_205 : BitVec 32 := 3#32
  let v309 : BitVec 32 := Scalar.addi arg8 c3_i32_205
  let c1_i32_206 : BitVec 32 := 1#32
  let v310 : BitVec 32 := Scalar.subi v309 c1_i32_206
  let c3_i32_207 : BitVec 32 := 3#32
  let v311 : BitVec 32 := Scalar.remsi v310 c3_i32_207
  let c0_i32_210 : BitVec 32 := 0#32
  let c0_i32_211 : BitVec 32 := 0#32
  let c0_i32_212 : BitVec 32 := 0#32
  ![v311.toNat, 0, 0, 0]
def k0_off3 (k0_t1 : Fin k0_t1_loop.trips) : Fin 3 → Nat :=
  let c0_i32_30 : BitVec 32 := 0#32
  let c1_i32_31 : BitVec 32 := 1#32
  let arg8 : BitVec 32 := Scf.iv c0_i32_30 c1_i32_31 k0_t1
  let c3_i32_203 : BitVec 32 := 3#32
  let v307 : BitVec 32 := Scalar.addi arg8 c3_i32_203
  let c1_i32_204 : BitVec 32 := 1#32
  let v308 : BitVec 32 := Scalar.subi v307 c1_i32_204
  let c17_i32_208 : BitVec 32 := 17#32
  let v312 : BitVec 32 := Scalar.muli v308 c17_i32_208
  let c0_i32_213 : BitVec 32 := 0#32
  let c0_i32_214 : BitVec 32 := 0#32
  ![v312.toNat, 0, 0]
def k0_off4 (k0_t1 : Fin k0_t1_loop.trips) : Fin 1 → Nat :=
  let c0_i32_30 : BitVec 32 := 0#32
  let c1_i32_31 : BitVec 32 := 1#32
  let arg8 : BitVec 32 := Scf.iv c0_i32_30 c1_i32_31 k0_t1
  let c3_i32 : BitVec 32 := 3#32
  let v35 : BitVec 32 := Scalar.remsi arg8 c3_i32
  ![v35.toNat]
def k0_off5 (k0_t1 : Fin k0_t1_loop.trips) : Fin 4 → Nat :=
  let c0_i32_30 : BitVec 32 := 0#32
  let c1_i32_31 : BitVec 32 := 1#32
  let arg8 : BitVec 32 := Scf.iv c0_i32_30 c1_i32_31 k0_t1
  let c3_i32 : BitVec 32 := 3#32
  let v35 : BitVec 32 := Scalar.remsi arg8 c3_i32
  let c0_i32_42 : BitVec 32 := 0#32
  let c0_i32_43 : BitVec 32 := 0#32
  let c0_i32_44 : BitVec 32 := 0#32
  ![v35.toNat, 0, 0, 0]
def k0_off6 (k0_t1 : Fin k0_t1_loop.trips) : Fin 4 → Nat :=
  let c0_i32_30 : BitVec 32 := 0#32
  let c1_i32_31 : BitVec 32 := 1#32
  let arg8 : BitVec 32 := Scf.iv c0_i32_30 c1_i32_31 k0_t1
  let c3_i32 : BitVec 32 := 3#32
  let v35 : BitVec 32 := Scalar.remsi arg8 c3_i32
  let v51 : Index := Scalar.indexCast v35
  let c0_54 : Index := 0#32
  let c0_55 : Index := 0#32
  let c0_56 : Index := 0#32
  ![v51.toNat, 0, 0, 0]
def k0_off7 (k0_t1 : Fin k0_t1_loop.trips) : Fin 4 → Nat :=
  let c0_i32_30 : BitVec 32 := 0#32
  let c1_i32_31 : BitVec 32 := 1#32
  let arg8 : BitVec 32 := Scf.iv c0_i32_30 c1_i32_31 k0_t1
  let c3_i32 : BitVec 32 := 3#32
  let v35 : BitVec 32 := Scalar.remsi arg8 c3_i32
  let v64 : Index := Scalar.indexCast v35
  let c1 : Index := 1#32
  let c0_63 : Index := 0#32
  let c0_64 : Index := 0#32
  ![v64.toNat, 1, 0, 0]
def k0_off8 (k0_t1 : Fin k0_t1_loop.trips) : Fin 4 → Nat :=
  let c0_i32_30 : BitVec 32 := 0#32
  let c1_i32_31 : BitVec 32 := 1#32
  let arg8 : BitVec 32 := Scf.iv c0_i32_30 c1_i32_31 k0_t1
  let c3_i32 : BitVec 32 := 3#32
  let v35 : BitVec 32 := Scalar.remsi arg8 c3_i32
  let v77 : Index := Scalar.indexCast v35
  let c2 : Index := 2#32
  let c0_71 : Index := 0#32
  let c0_72 : Index := 0#32
  ![v77.toNat, 2, 0, 0]
def k0_off9 (k0_t1 : Fin k0_t1_loop.trips) : Fin 4 → Nat :=
  let c0_i32_30 : BitVec 32 := 0#32
  let c1_i32_31 : BitVec 32 := 1#32
  let arg8 : BitVec 32 := Scf.iv c0_i32_30 c1_i32_31 k0_t1
  let c3_i32 : BitVec 32 := 3#32
  let v35 : BitVec 32 := Scalar.remsi arg8 c3_i32
  let v90 : Index := Scalar.indexCast v35
  let c3 : Index := 3#32
  let c0_79 : Index := 0#32
  let c0_80 : Index := 0#32
  ![v90.toNat, 3, 0, 0]
def k0_off10 (k0_t1 : Fin k0_t1_loop.trips) : Fin 4 → Nat :=
  let c0_i32_30 : BitVec 32 := 0#32
  let c1_i32_31 : BitVec 32 := 1#32
  let arg8 : BitVec 32 := Scf.iv c0_i32_30 c1_i32_31 k0_t1
  let c3_i32 : BitVec 32 := 3#32
  let v35 : BitVec 32 := Scalar.remsi arg8 c3_i32
  let v103 : Index := Scalar.indexCast v35
  let c4 : Index := 4#32
  let c0_87 : Index := 0#32
  let c0_88 : Index := 0#32
  ![v103.toNat, 4, 0, 0]
def k0_off11 (k0_t1 : Fin k0_t1_loop.trips) : Fin 4 → Nat :=
  let c0_i32_30 : BitVec 32 := 0#32
  let c1_i32_31 : BitVec 32 := 1#32
  let arg8 : BitVec 32 := Scf.iv c0_i32_30 c1_i32_31 k0_t1
  let c3_i32 : BitVec 32 := 3#32
  let v35 : BitVec 32 := Scalar.remsi arg8 c3_i32
  let v116 : Index := Scalar.indexCast v35
  let c5 : Index := 5#32
  let c0_95 : Index := 0#32
  let c0_96 : Index := 0#32
  ![v116.toNat, 5, 0, 0]
def k0_off12 (k0_t1 : Fin k0_t1_loop.trips) : Fin 4 → Nat :=
  let c0_i32_30 : BitVec 32 := 0#32
  let c1_i32_31 : BitVec 32 := 1#32
  let arg8 : BitVec 32 := Scf.iv c0_i32_30 c1_i32_31 k0_t1
  let c3_i32 : BitVec 32 := 3#32
  let v35 : BitVec 32 := Scalar.remsi arg8 c3_i32
  let v129 : Index := Scalar.indexCast v35
  let c6 : Index := 6#32
  let c0_103 : Index := 0#32
  let c0_104 : Index := 0#32
  ![v129.toNat, 6, 0, 0]
def k0_off13 (k0_t1 : Fin k0_t1_loop.trips) : Fin 4 → Nat :=
  let c0_i32_30 : BitVec 32 := 0#32
  let c1_i32_31 : BitVec 32 := 1#32
  let arg8 : BitVec 32 := Scf.iv c0_i32_30 c1_i32_31 k0_t1
  let c3_i32 : BitVec 32 := 3#32
  let v35 : BitVec 32 := Scalar.remsi arg8 c3_i32
  let v142 : Index := Scalar.indexCast v35
  let c7 : Index := 7#32
  let c0_111 : Index := 0#32
  let c0_112 : Index := 0#32
  ![v142.toNat, 7, 0, 0]
def k0_off14 (k0_t1 : Fin k0_t1_loop.trips) : Fin 4 → Nat :=
  let c0_i32_30 : BitVec 32 := 0#32
  let c1_i32_31 : BitVec 32 := 1#32
  let arg8 : BitVec 32 := Scf.iv c0_i32_30 c1_i32_31 k0_t1
  let c3_i32 : BitVec 32 := 3#32
  let v35 : BitVec 32 := Scalar.remsi arg8 c3_i32
  let v155 : Index := Scalar.indexCast v35
  let c8 : Index := 8#32
  let c0_119 : Index := 0#32
  let c0_120 : Index := 0#32
  ![v155.toNat, 8, 0, 0]
def k0_off15 (k0_t1 : Fin k0_t1_loop.trips) : Fin 4 → Nat :=
  let c0_i32_30 : BitVec 32 := 0#32
  let c1_i32_31 : BitVec 32 := 1#32
  let arg8 : BitVec 32 := Scf.iv c0_i32_30 c1_i32_31 k0_t1
  let c3_i32 : BitVec 32 := 3#32
  let v35 : BitVec 32 := Scalar.remsi arg8 c3_i32
  let v168 : Index := Scalar.indexCast v35
  let c9 : Index := 9#32
  let c0_127 : Index := 0#32
  let c0_128 : Index := 0#32
  ![v168.toNat, 9, 0, 0]
def k0_off16 (k0_t1 : Fin k0_t1_loop.trips) : Fin 4 → Nat :=
  let c0_i32_30 : BitVec 32 := 0#32
  let c1_i32_31 : BitVec 32 := 1#32
  let arg8 : BitVec 32 := Scf.iv c0_i32_30 c1_i32_31 k0_t1
  let c3_i32 : BitVec 32 := 3#32
  let v35 : BitVec 32 := Scalar.remsi arg8 c3_i32
  let v181 : Index := Scalar.indexCast v35
  let c10 : Index := 10#32
  let c0_135 : Index := 0#32
  let c0_136 : Index := 0#32
  ![v181.toNat, 10, 0, 0]
def k0_off17 (k0_t1 : Fin k0_t1_loop.trips) : Fin 4 → Nat :=
  let c0_i32_30 : BitVec 32 := 0#32
  let c1_i32_31 : BitVec 32 := 1#32
  let arg8 : BitVec 32 := Scf.iv c0_i32_30 c1_i32_31 k0_t1
  let c3_i32 : BitVec 32 := 3#32
  let v35 : BitVec 32 := Scalar.remsi arg8 c3_i32
  let v194 : Index := Scalar.indexCast v35
  let c11 : Index := 11#32
  let c0_143 : Index := 0#32
  let c0_144 : Index := 0#32
  ![v194.toNat, 11, 0, 0]
def k0_off18 (k0_t1 : Fin k0_t1_loop.trips) : Fin 4 → Nat :=
  let c0_i32_30 : BitVec 32 := 0#32
  let c1_i32_31 : BitVec 32 := 1#32
  let arg8 : BitVec 32 := Scf.iv c0_i32_30 c1_i32_31 k0_t1
  let c3_i32 : BitVec 32 := 3#32
  let v35 : BitVec 32 := Scalar.remsi arg8 c3_i32
  let v207 : Index := Scalar.indexCast v35
  let c12 : Index := 12#32
  let c0_151 : Index := 0#32
  let c0_152 : Index := 0#32
  ![v207.toNat, 12, 0, 0]
def k0_off19 (k0_t1 : Fin k0_t1_loop.trips) : Fin 4 → Nat :=
  let c0_i32_30 : BitVec 32 := 0#32
  let c1_i32_31 : BitVec 32 := 1#32
  let arg8 : BitVec 32 := Scf.iv c0_i32_30 c1_i32_31 k0_t1
  let c3_i32 : BitVec 32 := 3#32
  let v35 : BitVec 32 := Scalar.remsi arg8 c3_i32
  let v220 : Index := Scalar.indexCast v35
  let c13 : Index := 13#32
  let c0_159 : Index := 0#32
  let c0_160 : Index := 0#32
  ![v220.toNat, 13, 0, 0]
def k0_off20 (k0_t1 : Fin k0_t1_loop.trips) : Fin 4 → Nat :=
  let c0_i32_30 : BitVec 32 := 0#32
  let c1_i32_31 : BitVec 32 := 1#32
  let arg8 : BitVec 32 := Scf.iv c0_i32_30 c1_i32_31 k0_t1
  let c3_i32 : BitVec 32 := 3#32
  let v35 : BitVec 32 := Scalar.remsi arg8 c3_i32
  let v233 : Index := Scalar.indexCast v35
  let c14 : Index := 14#32
  let c0_167 : Index := 0#32
  let c0_168 : Index := 0#32
  ![v233.toNat, 14, 0, 0]
def k0_off21 (k0_t1 : Fin k0_t1_loop.trips) : Fin 4 → Nat :=
  let c0_i32_30 : BitVec 32 := 0#32
  let c1_i32_31 : BitVec 32 := 1#32
  let arg8 : BitVec 32 := Scf.iv c0_i32_30 c1_i32_31 k0_t1
  let c3_i32 : BitVec 32 := 3#32
  let v35 : BitVec 32 := Scalar.remsi arg8 c3_i32
  let v246 : Index := Scalar.indexCast v35
  let c15 : Index := 15#32
  let c0_175 : Index := 0#32
  let c0_176 : Index := 0#32
  ![v246.toNat, 15, 0, 0]
def k0_off22 (k0_t1 : Fin k0_t1_loop.trips) : Fin 4 → Nat :=
  let c0_i32_30 : BitVec 32 := 0#32
  let c1_i32_31 : BitVec 32 := 1#32
  let arg8 : BitVec 32 := Scf.iv c0_i32_30 c1_i32_31 k0_t1
  let c3_i32 : BitVec 32 := 3#32
  let v35 : BitVec 32 := Scalar.remsi arg8 c3_i32
  let v259 : Index := Scalar.indexCast v35
  let c16 : Index := 16#32
  let c0_183 : Index := 0#32
  let c0_184 : Index := 0#32
  ![v259.toNat, 16, 0, 0]
def k0_off23 (k0_t1 : Fin k0_t1_loop.trips) : Fin 1 → Nat :=
  let c0_i32_30 : BitVec 32 := 0#32
  let c1_i32_31 : BitVec 32 := 1#32
  let arg8 : BitVec 32 := Scf.iv c0_i32_30 c1_i32_31 k0_t1
  let v286 : Index := Scalar.indexCast arg8
  ![v286.toNat]
abbrev stage0_0 : Fin 1 → Memref sig .tc .smem S32 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S32x17x256x256 : Shape := ⟨4, ![32, 17, 256, 256]⟩
abbrev S32 : Shape := ⟨1, ![32]⟩
abbrev S32x17 : Shape := ⟨2, ![32, 17]⟩
abbrev S_ : Shape := ⟨0, ![]⟩
abbrev S17 : Shape := ⟨1, ![17]⟩
abbrev S32x1 : Shape := ⟨2, ![32, 1]⟩
abbrev S1x17 : Shape := ⟨2, ![1, 17]⟩

abbrev nBuf : Space → Nat
  | .hbm => 47
  | .vmem => 0
  | .smem => 0
  | _ => 0

abbrev bufTy : (tb : Table) → Fin (tcTables nBuf tb) → BufTy
  | .hbm, ⟨0, _⟩ => ⟨S32x17x256x256, .f32⟩
  | .hbm, ⟨1, _⟩ => ⟨S32x17x256x256, .f32⟩
  | .hbm, ⟨2, _⟩ => ⟨S32, .i32⟩
  | .hbm, ⟨3, _⟩ => ⟨S32x17, .f32⟩
  | .hbm, ⟨4, _⟩ => ⟨S_, .f32⟩
  | .hbm, ⟨5, _⟩ => ⟨S32x17, .f32⟩
  | .hbm, ⟨6, _⟩ => ⟨S32x17, .f32⟩
  | .hbm, ⟨7, _⟩ => ⟨S_, .f32⟩
  | .hbm, ⟨8, _⟩ => ⟨S32x17, .f32⟩
  | .hbm, ⟨9, _⟩ => ⟨S_, .f32⟩
  | .hbm, ⟨10, _⟩ => ⟨S32x17, .f32⟩
  | .hbm, ⟨11, _⟩ => ⟨S32x17, .i1⟩
  | .hbm, ⟨12, _⟩ => ⟨S_, .f32⟩
  | .hbm, ⟨13, _⟩ => ⟨S32x17, .f32⟩
  | .hbm, ⟨14, _⟩ => ⟨S32x17, .f32⟩
  | .hbm, ⟨15, _⟩ => ⟨S32x17, .f32⟩
  | .hbm, ⟨16, _⟩ => ⟨S17, .i32⟩
  | .hbm, ⟨17, _⟩ => ⟨S32x1, .i32⟩
  | .hbm, ⟨18, _⟩ => ⟨S1x17, .i32⟩
  | .hbm, ⟨19, _⟩ => ⟨S32x17, .i32⟩
  | .hbm, ⟨20, _⟩ => ⟨S32x17, .i32⟩
  | .hbm, ⟨21, _⟩ => ⟨S32x17, .i1⟩
  | .hbm, ⟨22, _⟩ => ⟨S_, .f32⟩
  | .hbm, ⟨23, _⟩ => ⟨S_, .f32⟩
  | .hbm, ⟨24, _⟩ => ⟨S32x17, .f32⟩
  | .hbm, ⟨25, _⟩ => ⟨S32x17, .f32⟩
  | .hbm, ⟨26, _⟩ => ⟨S32x17, .f32⟩
  | .hbm, ⟨27, _⟩ => ⟨S32x17, .f32⟩
  | .hbm, ⟨28, _⟩ => ⟨S32x17, .f32⟩
  | .hbm, ⟨29, _⟩ => ⟨S32x17, .f32⟩
  | .hbm, ⟨30, _⟩ => ⟨S32x17, .f32⟩
  | .hbm, ⟨31, _⟩ => ⟨S_, .f32⟩
  | .hbm, ⟨32, _⟩ => ⟨S_, .f32⟩
  | .hbm, ⟨33, _⟩ => ⟨S_, .i1⟩
  | .hbm, ⟨34, _⟩ => ⟨S32, .i1⟩
  | .hbm, ⟨35, _⟩ => ⟨S32, .i32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S_, .f32⟩
  | .hbm, ⟨41, _⟩ => ⟨S_, .f32⟩
  | .hbm, ⟨42, _⟩ => ⟨S_, .i1⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | _, _ => ⟨S32x17x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_cst_4 : Ref sig .tc := ⟨.hbm, 23, rfl⟩
abbrev main_call0_v0 : Ref sig .tc := ⟨.hbm, 24, rfl⟩
abbrev main_call0_v1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_c : Ref sig .tc := ⟨.hbm, 33, rfl⟩
abbrev main_v21 : Ref sig .tc := ⟨.hbm, 34, rfl⟩
abbrev main_v22 : Ref sig .tc := ⟨.hbm, 35, rfl⟩
abbrev main_c_6 : Ref sig .tc := ⟨.hbm, 36, rfl⟩
abbrev main_v23 : Ref sig .tc := ⟨.hbm, 37, rfl⟩
abbrev main_c_7 : Ref sig .tc := ⟨.hbm, 38, rfl⟩
abbrev main_v24 : Ref sig .tc := ⟨.hbm, 39, rfl⟩
abbrev main_v25 : Ref sig .tc := ⟨.hbm, 40, rfl⟩
abbrev main_cst_8 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_9 : Ref sig .tc := ⟨.hbm, 45, rfl⟩
abbrev main_v29 : Ref sig .tc := ⟨.hbm, 46, rfl⟩

abbrev nD : Nat := 1
abbrev τ : Topo := Topo.v7x

variable {F : FTy → Type} [FloatOps F]
-- ==== Proof.IdealRing.lean ====
/-
  The two transfer rings of `KernelIdeal`, named.

  The kernel keeps two arrays of 32 samples in HBM (17 planes of 512 by 128 each) and brings them in sample by
  sample, each array through its own three slots of VMEM, a slot having its own DMA semaphore. Trip `k` of the loop
  works on sample `k` in slot `k % 3`, having first started sample `k + 2` into slot `(k + 2) % 3`.
  This module names a sample, a slot and a semaphore, and shows that the offsets the program computes are those
  names. Everything is stated of an arbitrary array, slot buffer and semaphore array, so that it serves both rings.
-/
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Frame
public import Idealize.ShloMosaic.Lib.Ring
public import Idealize.ShloMosaic.Lib.Affine
public import Idealize.ShloMosaic.Lib.Tactic

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic

variable {F : FTy → Type} [FloatOps F]

/-! ## Samples, slots, semaphores -/

/-- Where sample `b` starts in an array: at plane `17 * b`. -/
abbrev sampleOff (b : Fin 32) : Fin 3 → Nat := ![17 * b.val, 0, 0]
/-- Where slot `s` starts in a slot buffer. -/
abbrev slotOff (s : Fin 3) : Fin 4 → Nat := ![s.val, 0, 0, 0]
/-- Where semaphore `s` lies. -/
abbrev cellOff (s : Fin 3) : Fin 1 → Nat := ![s.val]

/-- A sample lies within the array, -/
theorem sampleOff_inb : ∀ (b : Fin 32) (a), sampleOff b a + S17x512x128.size a ≤ S544x512x128.size a := by decide
/-- a slot within its buffer, -/
theorem slotOff_inb : ∀ (s : Fin 3) (a), slotOff s a + S1x17x512x128.size a ≤ S3x17x512x128.size a := by decide
/-- a semaphore within its array. -/
theorem cellOff_inb : ∀ (s : Fin 3) (a), cellOff s a + S1.size a ≤ S3.size a := by decide

/-- Sample `b` of the array `A`. -/
def sample (A : Memref sig .tc .hbm S544x512x128 .f32) (b : Fin 32) : Memref sig .tc .hbm S17x512x128 .f32 :=
  A.slice (Rect.unit (s := S544x512x128) (sampleOff b) S17x512x128.size (sampleOff_inb b)) (fun _ => rfl)
/-- Slot `s` of the buffer `B`. -/
def slot (B : Memref sig .tc .vmem S3x17x512x128 .f32) (s : Fin 3) : Memref sig .tc .vmem S17x512x128 .f32 :=
  (B.slice (Rect.unit (s := S3x17x512x128) (slotOff s) S1x17x512x128.size (slotOff_inb s)) (fun _ => rfl)).squeeze
    S17x512x128 squeezes_S1x17x512x128_S17x512x128
/-- Semaphore `s` of the semaphore array `E`. -/
def cell (E : DmaSems sig S3) (s : Fin 3) : DmaSems sig S_ :=
  (E.slice (Rect.unit (s := S3) (cellOff s) S1.size (cellOff_inb s))).squeeze S_ squeezes_S1_S_

instance (s : Fin 3) : ClosedOff (slotOff s) := ⟨slotOff s, rfl⟩
instance (b : Fin 32) : ClosedOff (sampleOff b) := ⟨sampleOff b, rfl⟩

/-! ## The offsets of trip `k`, in closed form -/

section Offsets
open Affine

/-- The loop runs 32 trips. -/
theorem trips_eq : k0_t1_loop.trips = 32 := by decide
/-- There are 32 trips. -/
theorem trip_lt (k : Fin k0_t1_loop.trips) : k.val < 32 := Nat.lt_of_lt_of_eq k.isLt trips_eq

/-- Trip `k` starts another sample exactly when sample `k + 2` exists. -/
theorem cond_iff : ∀ k : Fin k0_t1_loop.trips, k0_cond1 k = 1#1 ↔ k.val + 2 < 32 := by decide
/-- The semaphore of the sample the trip starts, -/
theorem off1_eq : ∀ k : Fin k0_t1_loop.trips, k0_off1 k = cellOff (Ring.sl 3 (k.val + 2)) := by decide
/-- the slot it fills, -/
theorem off2_eq : ∀ k : Fin k0_t1_loop.trips, k0_off2 k = slotOff (Ring.sl 3 (k.val + 2)) := by decide
/-- and the sample it starts, -/
theorem off3_eq : ∀ k : Fin k0_t1_loop.trips, k.val + 2 < 32 → k0_off3 k = sampleOff (Ring.bk 32 (k.val + 2)) := by decide
/-- The semaphore the trip waits for, -/
theorem off4_eq : ∀ k : Fin k0_t1_loop.trips, k0_off4 k = cellOff (Ring.sl 3 k.val) := by decide
/-- and the slot it then reads. -/
theorem off5_eq : ∀ k : Fin k0_t1_loop.trips, k0_off5 k = slotOff (Ring.sl 3 k.val) := by decide

/-- The word `k % 3`, as the program computes it. -/
theorem isInt_rem (k : Fin k0_t1_loop.trips) : IsInt (Scalar.remsi (Scf.iv 0#32 1#32 k.val) 3#32) ((Ring.sl 3 k.val).val : Nat) := by
  have := trip_lt k
  have hi : IsInt (Scf.iv 0#32 1#32 k.val) k.val :=
    iv (e := k.val) (ofNat (e := 0) 0 ⟨rfl, by decide⟩) (ofNat (e := 1) 1 ⟨rfl, by decide⟩) k.val ⟨by omega, by omega, by omega⟩
  exact remsi (e := ((Ring.sl 3 k.val).val : Nat)) hi (ofNat (e := 3) 3 ⟨rfl, by decide⟩)
    ⟨by simp [Ring.sl, Fin.ofNat], by omega, by omega⟩

/-- The place of plane `r` of the slot trip `k` reads. -/
theorem row_off (k : Fin k0_t1_loop.trips) (r : Nat) :
    (![(Scalar.indexCast (Scalar.remsi (Scf.iv 0#32 1#32 k.val) 3#32)).toNat, r, 0, 0] : Fin 4 → Nat) = ![(Ring.sl 3 k.val).val, r, 0, 0] :=
  vec_cons (indexCast (isInt_rem k)) rfl rfl

instance (k : Fin k0_t1_loop.trips) : ClosedOff (k0_off6 k) := ⟨![(Ring.sl 3 k.val).val, 0, 0, 0], row_off k 0⟩
instance (k : Fin k0_t1_loop.trips) : ClosedOff (k0_off7 k) := ⟨![(Ring.sl 3 k.val).val, 1, 0, 0], row_off k 1⟩
instance (k : Fin k0_t1_loop.trips) : ClosedOff (k0_off8 k) := ⟨![(Ring.sl 3 k.val).val, 2, 0, 0], row_off k 2⟩
instance (k : Fin k0_t1_loop.trips) : ClosedOff (k0_off9 k) := ⟨![(Ring.sl 3 k.val).val, 3, 0, 0], row_off k 3⟩
instance (k : Fin k0_t1_loop.trips) : ClosedOff (k0_off10 k) := ⟨![(Ring.sl 3 k.val).val, 4, 0, 0], row_off k 4⟩
instance (k : Fin k0_t1_loop.trips) : ClosedOff (k0_off11 k) := ⟨![(Ring.sl 3 k.val).val, 5, 0, 0], row_off k 5⟩
instance (k : Fin k0_t1_loop.trips) : ClosedOff (k0_off12 k) := ⟨![(Ring.sl 3 k.val).val, 6, 0, 0], row_off k 6⟩
instance (k : Fin k0_t1_loop.trips) : ClosedOff (k0_off13 k) := ⟨![(Ring.sl 3 k.val).val, 7, 0, 0], row_off k 7⟩
instance (k : Fin k0_t1_loop.trips) : ClosedOff (k0_off14 k) := ⟨![(Ring.sl 3 k.val).val, 8, 0, 0], row_off k 8⟩
instance (k : Fin k0_t1_loop.trips) : ClosedOff (k0_off15 k) := ⟨![(Ring.sl 3 k.val).val, 9, 0, 0], row_off k 9⟩
instance (k : Fin k0_t1_loop.trips) : ClosedOff (k0_off16 k) := ⟨![(Ring.sl 3 k.val).val, 10, 0, 0], row_off k 10⟩
instance (k : Fin k0_t1_loop.trips) : ClosedOff (k0_off17 k) := ⟨![(Ring.sl 3 k.val).val, 11, 0, 0], row_off k 11⟩
instance (k : Fin k0_t1_loop.trips) : ClosedOff (k0_off18 k) := ⟨![(Ring.sl 3 k.val).val, 12, 0, 0], row_off k 12⟩
instance (k : Fin k0_t1_loop.trips) : ClosedOff (k0_off19 k) := ⟨![(Ring.sl 3 k.val).val, 13, 0, 0], row_off k 13⟩
instance (k : Fin k0_t1_loop.trips) : ClosedOff (k0_off20 k) := ⟨![(Ring.sl 3 k.val).val, 14, 0, 0], row_off k 14⟩
instance (k : Fin k0_t1_loop.trips) : ClosedOff (k0_off21 k) := ⟨![(Ring.sl 3 k.val).val, 15, 0, 0], row_off k 15⟩
instance (k : Fin k0_t1_loop.trips) : ClosedOff (k0_off22 k) := ⟨![(Ring.sl 3 k.val).val, 16, 0, 0], row_off k 16⟩

end Offsets

/-! ## The program's slices are these names -/

section Names
variable (A : Memref sig .tc .hbm S544x512x128 .f32) (B : Memref sig .tc .vmem S3x17x512x128 .f32) (E : DmaSems sig S3)

/-- A sample, from where it starts; -/
theorem sample_of {off : Fin 3 → Nat} {b : Fin 32} (e : off = sampleOff b) (hh hs) :
    A.slice (Rect.unit (s := S544x512x128) off S17x512x128.size hh) hs = sample A b := by
  subst e; rfl
/-- a slot, from where it starts; -/
theorem slot_of {off : Fin 4 → Nat} {s : Fin 3} (e : off = slotOff s) (hh hs) :
    (B.slice (Rect.unit (s := S3x17x512x128) off S1x17x512x128.size hh) hs).squeeze S17x512x128 squeezes_S1x17x512x128_S17x512x128 = slot B s := by
  subst e; rfl
/-- a semaphore, from where it stands. -/
theorem cell_of {off : Fin 1 → Nat} {s : Fin 3} (e : off = cellOff s) (hh) :
    (E.slice (Rect.unit (s := S3) off S1.size hh)).squeeze S_ squeezes_S1_S_ = cell E s := by
  subst e; rfl

/-- Before the loop: samples 0 and 1 into slots 0 and 1. -/
@[sl_canon] theorem sample_lit0 (hh hs) : A.slice (Rect.unit (s := S544x512x128) ![0, 0, 0] S17x512x128.size hh) hs = sample A 0 :=
  sample_of A (by decide) _ _
@[sl_canon] theorem sample_lit1 (hh hs) : A.slice (Rect.unit (s := S544x512x128) ![17, 0, 0] S17x512x128.size hh) hs = sample A 1 :=
  sample_of A (by decide) _ _
@[sl_canon] theorem slot_lit0 (hh hs) : (B.slice (Rect.unit (s := S3x17x512x128) ![0, 0, 0, 0] S1x17x512x128.size hh) hs).squeeze S17x512x128
    squeezes_S1x17x512x128_S17x512x128 = slot B 0 := slot_of B (by decide) _ _
@[sl_canon] theorem slot_lit1 (hh hs) : (B.slice (Rect.unit (s := S3x17x512x128) ![1, 0, 0, 0] S1x17x512x128.size hh) hs).squeeze S17x512x128
    squeezes_S1x17x512x128_S17x512x128 = slot B 1 := slot_of B (by decide) _ _
@[sl_canon] theorem cell_lit0 (hh) : (E.slice (Rect.unit (s := S3) ![0] S1.size hh)).squeeze S_ squeezes_S1_S_ = cell E 0 := cell_of E (by decide) _
@[sl_canon] theorem cell_lit1 (hh) : (E.slice (Rect.unit (s := S3) ![1] S1.size hh)).squeeze S_ squeezes_S1_S_ = cell E 1 := cell_of E (by decide) _

/-- Trip `k` starts sample `k + 2`, -/
@[sl_canon] theorem cell_start (k : Fin k0_t1_loop.trips) (hh) :
    (E.slice (Rect.unit (s := S3) (k0_off1 k) S1.size hh)).squeeze S_ squeezes_S1_S_ = cell E (Ring.sl 3 (k.val + 2)) := cell_of E (off1_eq k) _
@[sl_canon] theorem slot_start (k : Fin k0_t1_loop.trips) (hh hs) :
    (B.slice (Rect.unit (s := S3x17x512x128) (k0_off2 k) S1x17x512x128.size hh) hs).squeeze S17x512x128
      squeezes_S1x17x512x128_S17x512x128 = slot B (Ring.sl 3 (k.val + 2)) := slot_of B (off2_eq k) _ _
@[sl_canon] theorem sample_start (k : Fin k0_t1_loop.trips) (hk : k.val + 2 < 32) (hh hs) :
    A.slice (Rect.unit (s := S544x512x128) (k0_off3 k) S17x512x128.size hh) hs = sample A (Ring.bk 32 (k.val + 2)) := sample_of A (off3_eq k hk) _ _
/-- and waits for sample `k`. -/
@[sl_canon] theorem cell_wait (k : Fin k0_t1_loop.trips) (hh) :
    (E.slice (Rect.unit (s := S3) (k0_off4 k) S1.size hh)).squeeze S_ squeezes_S1_S_ = cell E (Ring.sl 3 k.val) := cell_of E (off4_eq k) _
@[sl_canon] theorem slot_wait (k : Fin k0_t1_loop.trips) (hh hs) :
    (B.slice (Rect.unit (s := S3x17x512x128) (k0_off5 k) S1x17x512x128.size hh) hs).squeeze S17x512x128
      squeezes_S1x17x512x128_S17x512x128 = slot B (Ring.sl 3 k.val) := slot_of B (off5_eq k) _ _

end Names

end Cert.Proof.KernelIdeal

end
-- ==== Proof.IdealTrip.lean ====
/-
  One trip of the loop of `KernelIdeal`.
-/
module

public import proofs.«01_k».proof.Proof.IdealRing
public import Idealize.ShloMosaic.Lib.ValueLayout

@[expose] public section

set_option maxRecDepth 16384

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

/-- The resources the proof is about: the pipeline library's, beside the counters the kernel's own transfers use. -/
abbrev UU : Type := Pipeline.UD sig nD τ
local notation "𝕄" => MT nD τ sig Unit (Elt F) ℕ UU ℕ
/-- The proof needs no variants. -/
abbrev 𝒱₀ : Variants := Variants.none

/-- Equal assertions entail each other. -/
theorem entails_of_eq {P Q : sProp 𝕄} (e : P = Q) : P ⊢ Q := e ▸ .rfl

/-! ## The parts of a ring -/

section Parts
variable (c : Dev nD) (A : Memref sig .tc .hbm S544x512x128 .f32) (B : Memref sig .tc .vmem S3x17x512x128 .f32) (E : DmaSems sig S3)
  (X : Buf (Elt F) (A.view.loc (c : Thread nD τ)))

/-- Semaphore `s` at zero. -/
abbrev cellP (s : Fin 3) : sProp 𝕄 := semVal ((c : Thread nD τ), SemLoc.dma (cell E s).sem) 0
/-- Slot `s` held at `f`. -/
abbrev slotP (s : Fin 3) (f : Buf (Elt F) ((slot B s).view.loc (c : Thread nD τ))) : sProp 𝕄 :=
  (slot B s).view.loc (c : Thread nD τ) ↦[(slot B s).view.set]{fullShare} f
/-- Sample `b` of the array held, at the array's contents `X`. -/
abbrev homeP (b : Fin 32) : sProp 𝕄 := (sample A b).view.loc (c : Thread nD τ) ↦[(sample A b).view.set]{fullShare} X
/-- Sample `b`, as a transfer reads it. -/
abbrev payload (b : Fin 32) : S17x512x128.Idx → Elt F .f32 := ReadAs.same.apply ((sample A b).view.read (Elt F) X)
/-- Slot `s` being filled with sample `b`: when the transfer is over, the slot holds the sample and the sample is back. -/
abbrev flightP (s : Fin 3) (b : Fin 32) (f : Buf (Elt F) ((slot B s).view.loc (c : Thread nD τ))) : sProp 𝕄 :=
  Transfers.Flight countersEmb (c : Thread nD τ) (SemLoc.dma (cell E s).sem) () 139264
    iprop(slotP c B s ((slot B s).view.writes (Elt F) f [⟨Rect.whole S17x512x128, payload c A X b⟩]) ∗ homeP c A X b)

/-- The ring before trip `k`: samples `k` and `k + 1` on their way (if they exist), everything else at rest. -/
def ring (k : ℕ) : sProp 𝕄 := Ring.At 2 (cellP c E) (slotP c B) (homeP c A X) (flightP c A B E X) k

/-- The samples at rest both before and after trip `k`. -/
abbrev restP (k : ℕ) : sProp 𝕄 := bigSep ((Ring.homeSet 2 k).erase (Ring.bk 32 (k + 2))) (homeP c A X)

/-- Before a trip that starts a sample; -/
theorem ring_here (k : ℕ) (hk : k + 2 < 32) : ring c A B E X k
    = iprop((homeP c A X (Ring.bk 32 (k + 2)) ∗ restP c A X k)
        ∗ (∃ f, flightP c A B E X (Ring.sl 3 k) (Ring.bk 32 k) f) ∗ (∃ f, flightP c A B E X (Ring.sl 3 (k + 1)) (Ring.bk 32 (k + 1)) f)
        ∗ cellP c E (Ring.sl 3 (k + 2)) ∗ ∃ f, slotP c B (Ring.sl 3 (k + 2)) f) := by
  unfold ring; rw [Ring.At3_here _ _ _ _ k hk]
/-- and after it. -/
theorem ring_next (k : ℕ) (hk : k + 2 < 32) : ring c A B E X (k + 1)
    = iprop((homeP c A X (Ring.bk 32 k) ∗ restP c A X k)
        ∗ (∃ f, flightP c A B E X (Ring.sl 3 (k + 1)) (Ring.bk 32 (k + 1)) f) ∗ (∃ f, flightP c A B E X (Ring.sl 3 (k + 2)) (Ring.bk 32 (k + 2)) f)
        ∗ cellP c E (Ring.sl 3 k) ∗ ∃ f, slotP c B (Ring.sl 3 k) f) := by
  unfold ring; rw [Ring.At3_next _ _ _ _ k hk, Ring.slotAt3_next0 _ _ _ k (by omega), Ring.slotAt3_next1 _ _ _ k hk]
/-- Before a trip that starts nothing; -/
theorem ring_here_tail (k : ℕ) (hk : k < 32) : ring c A B E X k
    = iprop(bigSep (Ring.homeSet 2 k) (homeP c A X)
        ∗ (∃ f, flightP c A B E X (Ring.sl 3 k) (Ring.bk 32 k) f) ∗ Ring.slotAt 2 (cellP c E) (slotP c B) (flightP c A B E X) k 1
        ∗ cellP c E (Ring.sl 3 (k + 2)) ∗ ∃ f, slotP c B (Ring.sl 3 (k + 2)) f) := by
  unfold ring; rw [Ring.At3_here_tail _ _ _ _ k hk]
/-- and after it. -/
theorem ring_next_tail (k : ℕ) (hk : k < 32) (h : 32 ≤ k + 2) : ring c A B E X (k + 1)
    = iprop((homeP c A X (Ring.bk 32 k) ∗ bigSep (Ring.homeSet 2 k) (homeP c A X))
        ∗ Ring.slotAt 2 (cellP c E) (slotP c B) (flightP c A B E X) k 1
        ∗ (cellP c E (Ring.sl 3 (k + 2)) ∗ ∃ f, slotP c B (Ring.sl 3 (k + 2)) f) ∗ cellP c E (Ring.sl 3 k) ∗ ∃ f, slotP c B (Ring.sl 3 k) f) := by
  unfold ring; rw [Ring.At3_next_tail _ _ _ _ k h hk, Ring.slotAt3_tail_role _ _ _ k]

end Parts

/-! ## The trip -/

/-- The first array, -/
abbrev pM : Memref sig .tc .hbm S544x512x128 .f32 := Memref.whole main_call0_v0
/-- the second array, -/
abbrev gM : Memref sig .tc .hbm S544x512x128 .f32 := Memref.whole main_call0_v1
/-- the buffer of the first, -/
abbrev pB : Memref sig .tc .vmem S3x17x512x128 .f32 := Memref.whole cc0_scratch0
/-- the buffer of the second. -/
abbrev gB : Memref sig .tc .vmem S3x17x512x128 .f32 := Memref.whole cc0_scratch1

/-! ## The value of a trip -/

/-- Where plane `r` of trip `k`'s slot starts, as the program computes it. -/
abbrev planeOff (k : Fin k0_t1_loop.trips) (r : Fin 17) : Fin 4 → Nat :=
  ![(Scalar.indexCast (Scalar.remsi (Scf.iv 0#32 1#32 k.val) 3#32)).toNat, r.val, 0, 0]

/-- The plane lies within the buffer. -/
theorem planeOff_inb (k : Fin k0_t1_loop.trips) (r : Fin 17) (a : Fin 4) : planeOff k r a + S1x1x512x128.size a ≤ S3x17x512x128.size a := by
  unfold planeOff
  rw [row_off k r.val]
  exact (by decide : ∀ (s : Fin 3) (r : Fin 17) (a : Fin 4),
    (![s.val, r.val, 0, 0] : Fin 4 → Nat) a + S1x1x512x128.size a ≤ S3x17x512x128.size a) _ _ _

/-- Plane `r` of trip `k`'s slot, the slot holding the sample `x`. -/
def planeRead (B : Memref sig .tc .vmem S3x17x512x128 .f32) (k : Fin k0_t1_loop.trips) (x : Vec F S17x512x128 .f32) (r : Fin 17) :
    Vec F S1x1x512x128 .f32 :=
  B.view.readAt (Elt F) (Rect.unit (s := S3x17x512x128) (planeOff k r) S1x1x512x128.size (planeOff_inb k r)).toLoadRect
    ((slot B (Ring.sl 3 k.val)).view.rep x)

/-- What the whole view reads of a value put into one of its parts, at a place of that part. -/
theorem read_part_rep {sig : RefSig} {κ : Kind} {sp : Space} {s s' : Shape} {e : EltTy} {Val : EltTy → Type} [∀ e, Nonempty (Val e)]
    (v : View sig κ sp s e) (r : Rect s) (hn : s'.numel = r.shape.numel) (x : s'.Idx → Val e) (y : s.Idx) (z : s'.Idx)
    (h : y = r.emb (Shape.reshapeEquiv hn z)) : v.read Val (((v.slice r).reshape s' hn).rep x) y = x z := by
  subst h
  exact congrFun (View.read_rep ((v.slice r).reshape s' hn) x) z

/-- The plane read is plane `r` of the sample. -/
theorem planeRead_apply (B : Memref sig .tc .vmem S3x17x512x128 .f32) (k : Fin k0_t1_loop.trips) (x : Vec F S17x512x128 .f32) (r : Fin 17)
    (i : S1x1x512x128.Idx) : planeRead B k x r i = x (ix3 r (i 2) (i 3)) := by
  refine read_part_rep B.view (Rect.unit (s := S3x17x512x128) (slotOff (Ring.sl 3 k.val)) S1x17x512x128.size (slotOff_inb _))
    squeezes_S1x17x512x128_S17x512x128.numel_eq x _ (ix3 r (i 2) (i 3)) ?_
  refine Eq.trans (funext fun a => Fin.ext ?_) (congrArg _ (reshapeEquiv_ix3_1abc _ r (i 2) (i 3)).symm)
  have h0 : (i 0).val = 0 := Nat.lt_one_iff.mp (i 0).isLt
  have h1 : (i 1).val = 0 := Nat.lt_one_iff.mp (i 1).isLt
  have ho := congrFun (row_off k r.val) a
  show planeOff k r a + 1 * (i a).val = slotOff (Ring.sl 3 k.val) a + 1 * _
  refine (congrArg (· + 1 * (i a).val) ho).trans ?_
  fin_cases a
  · show (Ring.sl 3 k.val).val + 1 * (i 0).val = (Ring.sl 3 k.val).val + 1 * 0
    rw [h0]
  · show r.val + 1 * (i 1).val = 0 + 1 * r.val
    rw [h1]; omega
  · show 0 + 1 * (i 2).val = 0 + 1 * (i 2).val
    rfl
  · show 0 + 1 * (i 3).val = 0 + 1 * (i 3).val
    rfl

section Step
variable (P G : Fin 17 → Vec F S1x1x512x128 .f32)

/-- For each class and lane, the column sums of the planes `P`; -/
def areaCols : FVec F S17x1 .f32 :=
  k0_pay85 (k0_pay8 (P 0)) (k0_pay8 (P 1)) (k0_pay8 (P 2)) (k0_pay8 (P 3)) (k0_pay8 (P 4)) (k0_pay8 (P 5)) (k0_pay8 (P 6)) (k0_pay8 (P 7))
    (k0_pay8 (P 8)) (k0_pay8 (P 9)) (k0_pay8 (P 10)) (k0_pay8 (P 11)) (k0_pay8 (P 12)) (k0_pay8 (P 13)) (k0_pay76 (P 14)) (P 15) (P 16)
/-- of the products of the planes; -/
def overCols : FVec F S17x1 .f32 :=
  k0_pay84 (k0_pay7 (P 0) (G 0)) (k0_pay7 (P 1) (G 1)) (k0_pay7 (P 2) (G 2)) (k0_pay7 (P 3) (G 3)) (k0_pay7 (P 4) (G 4)) (k0_pay7 (P 5) (G 5))
    (k0_pay7 (P 6) (G 6)) (k0_pay7 (P 7) (G 7)) (k0_pay7 (P 8) (G 8)) (k0_pay7 (P 9) (G 9)) (k0_pay7 (P 10) (G 10)) (k0_pay7 (P 11) (G 11))
    (k0_pay7 (P 12) (G 12)) (k0_pay7 (P 13) (G 13)) (k0_pay78 (P 14) (G 14)) (P 15) (G 15) (P 16) (G 16)
/-- and the column maxima of the planes `G`. -/
def maxCols : FVec F S17x128 .f32 :=
  k0_pay83 (k0_pay9 (G 0)) (k0_pay9 (G 1)) (k0_pay9 (G 2)) (k0_pay9 (G 3)) (k0_pay9 (G 4)) (k0_pay9 (G 5)) (k0_pay9 (G 6)) (k0_pay9 (G 7))
    (k0_pay9 (G 8)) (k0_pay9 (G 9)) (k0_pay9 (G 10)) (k0_pay9 (G 11)) (k0_pay9 (G 12)) (k0_pay9 (G 13)) (k0_pay77 (G 14)) (G 15) (G 16)

/-- One step of the accumulators: the per-class total and the count of samples. -/
def stepVal (lab : BitVec 32) (a9 : FVec F S17x1 .f32) (a10 : FVec F S1x1 .f32) : FVec F S17x1 .f32 × FVec F S1x1 .f32 :=
  (k0_pay2 a9 (maxCols G) (overCols P G) (areaCols P) lab, k0_pay3 a10 (maxCols G))
end Step

section Trip
variable (c : Dev nD) (XP : Buf (Elt F) (pM.view.loc (c : Thread nD τ))) (XG : Buf (Elt F) (gM.view.loc (c : Thread nD τ)))
  (arg2 : Memref sig .tc .smem S32 .i32) (harg2 : arg2.IsWhole) (XL : Buf (Elt F) (arg2.view.loc (c : Thread nD τ)))
  (arg3 : Memref sig .tc .vmem S1x1 .f32) (harg3 : arg3.IsWhole)

/-- The labels held. -/
abbrev labP : sProp 𝕄 := arg2.view.loc (c : Thread nD τ) ↦[arg2.view.set]{fullShare} XL

/-- What the loop holds before trip `k`. -/
def resAt (k : ℕ) : sProp 𝕄 :=
  iprop(labP c arg2 XL ∗ (∃ W, owes (c : Thread nD τ) 0 W) ∗ ring c pM pB cc0_scratch2 XP k ∗ ring c gM gB cc0_scratch3 XG k)

/-- The two accumulators. -/
abbrev Acc : Type := FVec F S17x1 .f32 × FVec F S1x1 .f32

/-- One trip, from the accumulators before it. -/
abbrev tripG (k : Fin k0_t1_loop.trips) (acc : Acc (F := F)) : Prog (TpuEff nD τ sig (Elt F) Λ₀ .tc) (Acc (F := F)) :=
  k0_t1_body (F := F) pM (Memref.isWhole_whole _) gM (Memref.isWhole_whole _) arg2 harg2 arg3 harg3 pB (Memref.isWhole_whole _)
    gB (Memref.isWhole_whole _) cc0_scratch2 cc0_scratch3 k acc

/-- The label word of trip `k`. -/
def labWord (k : Fin k0_t1_loop.trips) : BitVec 32 :=
  arg2.view.readAt (Elt F) (Rect.unit (s := S32) (k0_off23 k) S1.size (k0_off23_inb k)).toLoadRect XL (Shape.Idx.first (s := S1) (by decide))

/-- What trip `k` makes of the accumulators. -/
def tripVal (k : Fin k0_t1_loop.trips) (a9 : FVec F S17x1 .f32) (a10 : FVec F S1x1 .f32) : Acc (F := F) :=
  stepVal (planeRead pB k (payload c pM XP (Ring.bk 32 k.val))) (planeRead gB k (payload c gM XG (Ring.bk 32 k.val)))
    (labWord c arg2 XL k) a9 a10

set_option backward.proofsInPublic true in
/-- A trip that starts a sample: from what is held before it, it computes `tripVal` and ends with what is held after it. -/
theorem tripRun (k : Fin k0_t1_loop.trips) (hk : k.val + 2 < 32) (a9 : FVec F S17x1 .f32) (a10 : FVec F S1x1 .f32) :
      resAt c XP XG arg2 XL k ⊢ wp frame (wpE (defs₀ (F := F)) 𝒱₀ (c : Thread nD τ) none) Set.univ (tripG arg2 harg2 arg3 harg3 k (a9, a10))
        (fun a => iprop(⌜a = tripVal c XP XG arg2 XL k a9 a10⌝ ∗ resAt c XP XG arg2 XL (k.val + 1))) := by
    have h1 : k0_cond1 k = 1#1 := (cond_iff k).mpr hk
    unfold resAt
    rw [ring_here _ _ _ _ _ k.val hk, ring_here _ _ _ _ _ k.val hk, ring_next _ _ _ _ _ k.val hk, ring_next _ _ _ _ _ k.val hk]
    iintro ⟨HL, ⟨%W, HW⟩, ⟨⟨HpN, HpR⟩, ⟨%p0, HP0⟩, ⟨%p1, HP1⟩, ⟨HPc, ⟨%p2, HP2⟩⟩⟩, ⟨⟨HgN, HgR⟩, ⟨%g0, HG0⟩, ⟨%g1, HG1⟩, ⟨HGc, ⟨%g2, HG2⟩⟩⟩⟩
    dsimp only [tripG]
    sl_unfold [k0_t1_body]
    sl_exec
    sl_step
    isplitr
    · ipureintro
      rfl
    isplitl [HL]; · iexact HL
    isplitl [HW]; · iexists _; iexact HW
    isplitl [HP0_src HpR HP1 HPc HP0 HP0_dst]
    · isplitl [HP0_src HpR]; · isplitl [HP0_src]; · iexact HP0_src
                               iexact HpR
      isplitl [HP1]; · iexists _; iexact HP1
      isplitl [HPc]; · iexists _; iexact HPc
      isplitl [HP0]; · iexact HP0
      iexists _; iexact HP0_dst
    · isplitl [HG0_src HgR]; · isplitl [HG0_src]; · iexact HG0_src
                               iexact HgR
      isplitl [HG1]; · iexists _; iexact HG1
      isplitl [HGc]; · iexists _; iexact HGc
      isplitl [HG0]; · iexact HG0
      iexists _; iexact HG0_dst

set_option backward.proofsInPublic true in
/-- A trip that starts nothing: the last two. -/
theorem tripRun_tail (k : Fin k0_t1_loop.trips) (hk : ¬ k.val + 2 < 32) (a9 : FVec F S17x1 .f32) (a10 : FVec F S1x1 .f32) :
      resAt c XP XG arg2 XL k ⊢ wp frame (wpE (defs₀ (F := F)) 𝒱₀ (c : Thread nD τ) none) Set.univ (tripG arg2 harg2 arg3 harg3 k (a9, a10))
        (fun a => iprop(⌜a = tripVal c XP XG arg2 XL k a9 a10⌝ ∗ resAt c XP XG arg2 XL (k.val + 1))) := by
    have h1 : ¬ k0_cond1 k = 1#1 := fun h => hk ((cond_iff k).mp h)
    have hl := trip_lt k
    have hg : 32 ≤ k.val + 2 := by omega
    unfold resAt
    rw [ring_here_tail _ _ _ _ _ k.val hl, ring_here_tail _ _ _ _ _ k.val hl, ring_next_tail _ _ _ _ _ k.val hl hg,
      ring_next_tail _ _ _ _ _ k.val hl hg]
    iintro ⟨HL, ⟨%W, HW⟩, ⟨HpR, ⟨%p0, HP0⟩, HP1, HP2⟩, ⟨HgR, ⟨%g0, HG0⟩, HG1, HG2⟩⟩
    dsimp only [tripG]
    sl_unfold [k0_t1_body]
    sl_exec
    sl_step
    isplitr
    · ipureintro
      rfl
    isplitl [HL]; · iexact HL
    isplitl [HW]; · iexists _; iexact HW
    isplitl [HP0_src HpR HP1 HP2 HP0 HP0_dst]
    · isplitl [HP0_src HpR]; · isplitl [HP0_src]; · iexact HP0_src
                               iexact HpR
      isplitl [HP1]; · iexact HP1
      isplitl [HP2]; · iexact HP2
      isplitl [HP0]; · iexact HP0
      iexists _; iexact HP0_dst
    · isplitl [HG0_src HgR]; · isplitl [HG0_src]; · iexact HG0_src
                               iexact HgR
      isplitl [HG1]; · iexact HG1
      isplitl [HG2]; · iexact HG2
      isplitl [HG0]; · iexact HG0
      iexists _; iexact HG0_dst

end Trip
end Cert.Proof.KernelIdeal

end
-- ==== Proof.IdealBody.lean ====
/-
  The loop of `KernelIdeal`, and the kernel body around it.
-/
module

public import proofs.«01_k».proof.Proof.IdealTrip
public import Idealize.ShloMosaic.Lib.VecWindow

@[expose] public section

set_option maxRecDepth 16384

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (c : Dev nD) (XP : Buf (Elt F) (pM.view.loc (c : Thread nD τ))) (XG : Buf (Elt F) (gM.view.loc (c : Thread nD τ)))
  (arg2 : Memref sig .tc .smem S32 .i32) (harg2 : arg2.IsWhole) (XL : Buf (Elt F) (arg2.view.loc (c : Thread nD τ)))
  (arg3 : Memref sig .tc .vmem S1x1 .f32) (harg3 : arg3.IsWhole)

/-- The accumulators before trip `k`. -/
def accAt : ℕ → Acc (F := F)
  | 0 => (k0_pay86, k0_pay87)
  | k + 1 => if h : k < k0_t1_loop.trips then tripVal c XP XG arg2 XL ⟨k, h⟩ (accAt k).1 (accAt k).2 else accAt k

/-- Trip `k` takes the accumulators before it to the accumulators before the next. -/
theorem accAt_succ (k : Fin k0_t1_loop.trips) :
    accAt c XP XG arg2 XL (k.val + 1) = tripVal c XP XG arg2 XL k (accAt c XP XG arg2 XL k.val).1 (accAt c XP XG arg2 XL k.val).2 := by
  rw [accAt, dif_pos k.isLt]

/-- The loop's invariant: the two rings before trip `k`, and the accumulators as `accAt` says. -/
def invAt (k : ℕ) (a : Acc (F := F)) : sProp 𝕄 := iprop(⌜a = accAt c XP XG arg2 XL k⌝ ∗ resAt c XP XG arg2 XL k)

/-- A trip keeps the invariant, whether it starts a sample or not. -/
theorem trip_step (k : Fin k0_t1_loop.trips) (a : Acc (F := F)) :
    invAt c XP XG arg2 XL k.val a ⊢ wp frame (wpE (defs₀ (F := F)) 𝒱₀ (c : Thread nD τ) none) Set.univ (tripG arg2 harg2 arg3 harg3 k a)
      (invAt c XP XG arg2 XL (k.val + 1)) := by
  unfold invAt
  iintro ⟨%e, H⟩
  subst e
  rw [accAt_succ]
  by_cases hk : k.val + 2 < 32
  · iapply (tripRun c XP XG arg2 harg2 XL arg3 harg3 k hk _ _); iexact H
  · iapply (tripRun_tail c XP XG arg2 harg2 XL arg3 harg3 k hk _ _); iexact H

set_option warn.classDefReducibility false in
/-- The invariant, in the form the rule for the loop takes. -/
def loopInv (init : Acc (F := F)) :
    LoopInvTy_k0_t1 (F := F) Unit ℕ UU ℕ 𝒱₀ c none Set.univ pM (Memref.isWhole_whole _) gM (Memref.isWhole_whole _) arg2 harg2 arg3 harg3
      pB (Memref.isWhole_whole _) gB (Memref.isWhole_whole _) cc0_scratch2 cc0_scratch3 init where
  inv k a := invAt c XP XG arg2 XL k a
  step k a := by
    have h := trip_step c XP XG arg2 harg2 XL arg3 harg3 k a
    iintro H
    iapply h; iexact H

/-- The whole loop: from the invariant before trip 0 to the invariant after the last trip. -/
theorem loop_run {β : Type} (init : Acc (F := F)) (kk : Acc (F := F) → Prog (TpuEff nD τ sig (Elt F) Λ₀ .tc) β) (Q : β → sProp 𝕄) :
    invAt c XP XG arg2 XL 0 init
      ⊢ iprop((∀ a, invAt c XP XG arg2 XL k0_t1_loop.trips a -∗ wp frame (wpE (defs₀ (F := F)) 𝒱₀ (c : Thread nD τ) none) Set.univ (kk a) Q)
        -∗ wp frame (wpE (defs₀ (F := F)) 𝒱₀ (c : Thread nD τ) none) Set.univ
          (k0_t1_loop.for k0_t1_ok init (k0_t1_body (F := F) pM (Memref.isWhole_whole _) gM (Memref.isWhole_whole _) arg2 harg2 arg3 harg3
            pB (Memref.isWhole_whole _) gB (Memref.isWhole_whole _) cc0_scratch2 cc0_scratch3) >>= kk) Q) :=
  exec_loop _ _ _ _ _ _ _ _ _ (loopInv c XP XG arg2 harg2 XL arg3 harg3 init)

/-- The body on the given windows, the two arrays, the slots and the semaphores its own. -/
abbrev bodyG : Prog (TpuEff nD τ sig (Elt F) Λ₀ .tc) PUnit :=
  cc0__loss_kernel pM (Memref.isWhole_whole _) gM (Memref.isWhole_whole _) arg2 harg2 arg3 harg3 pB (Memref.isWhole_whole _)
    gB (Memref.isWhole_whole _) cc0_scratch2 cc0_scratch3

/-- The result's window held at `f`. -/
abbrev outP (f : Buf (Elt F) (arg3.view.loc (c : Thread nD τ))) : sProp 𝕄 := arg3.view.loc (c : Thread nD τ) ↦[arg3.view.set]{fullShare} f

section Idle
variable (A : Memref sig .tc .hbm S544x512x128 .f32) (B : Memref sig .tc .vmem S3x17x512x128 .f32) (E : DmaSems sig S3)
  (X : Buf (Elt F) (A.view.loc (c : Thread nD τ)))
/-- A ring at rest: every sample home, every slot free. -/
def idle : sProp 𝕄 := Ring.At₀ (cellP c E) (slotP c B) (homeP c A X)
/-- A ring at rest, its first three samples and its three slots named. -/
theorem idle_eq : idle c A B E X = iprop((homeP c A X 0 ∗ homeP c A X 1 ∗ homeP c A X (Ring.bk 32 2) ∗ restP c A X 0)
    ∗ (cellP c E 0 ∗ ∃ f, slotP c B 0 f) ∗ (cellP c E 1 ∗ ∃ f, slotP c B 1 f) ∗ (cellP c E 2 ∗ ∃ f, slotP c B 2 f)) := by
  unfold idle; rw [Ring.At₀_eq3 _ _ _ (by decide)]; rfl
/-- The ring before trip 0, samples 0 and 1 on their way. -/
theorem ring_zero : ring c A B E X 0 = iprop((homeP c A X (Ring.bk 32 2) ∗ restP c A X 0)
        ∗ (∃ f, flightP c A B E X 0 0 f) ∗ (∃ f, flightP c A B E X 1 1 f)
        ∗ cellP c E 2 ∗ ∃ f, slotP c B 2 f) := by
  rw [ring_here _ _ _ _ _ 0 (by decide)]; rfl
/-- The ring after the last trip is at rest. -/
theorem idle_of_last : ring c A B E X 32 ⊢ idle c A B E X := by
  unfold ring idle
  refine (Ring.free3_of_At_last (homeP c A X) (cellP c E) (slotP c B) (flightP c A B E X)).trans ?_
  unfold Ring.At₀
  rw [bigSep_univ_eq_bigSepL [(0 : Fin 3), (1 : Fin 3), (2 : Fin 3)] (by decide) (by decide)]
  exact .rfl
end Idle

/-- What the body leaves in the result's window. -/
def outVal : Vec F S1x1 .f32 := k0_pay4 (accAt c XP XG arg2 XL 32).1 (accAt c XP XG arg2 XL 32).2

/-- What the body is handed: the labels, the result's window at anything, both rings at rest. -/
abbrev PRE (f : Buf (Elt F) (arg3.view.loc (c : Thread nD τ))) (W : Waits sig Unit) : sProp 𝕄 :=
  iprop(labP c arg2 XL ∗ outP c arg3 f ∗ idle c pM pB cc0_scratch2 XP ∗ idle c gM gB cc0_scratch3 XG ∗ owes (c : Thread nD τ) 0 W)
/-- What it hands back: the same, the result's window holding `outVal`. -/
abbrev POST : sProp 𝕄 :=
  iprop(labP c arg2 XL ∗ (∃ f, ⌜arg3.view.read (Elt F) f = outVal c XP XG arg2 XL⌝ ∗ outP c arg3 f)
    ∗ idle c pM pB cc0_scratch2 XP ∗ idle c gM gB cc0_scratch3 XG ∗ ∃ W, owes (c : Thread nD τ) 0 W)

/-- The body: the first two samples started, the loop, the result stored. -/
theorem bodyRun (f : Buf (Elt F) (arg3.view.loc (c : Thread nD τ))) (W : Waits sig Unit) (Q : PUnit → sProp 𝕄) :
    iprop(PRE c XP XG arg2 XL arg3 f W ∗ (POST c XP XG arg2 XL arg3 -∗ Q ⟨⟩))
      ⊢ wp frame (wpE (defs₀ (F := F)) 𝒱₀ (c : Thread nD τ) none) Set.univ (bodyG arg2 harg2 arg3 harg3) Q := by
  iintro ⟨⟨HL, HO, HP, HG, HW⟩, Hk⟩
  ihave HP' := (entails_of_eq (idle_eq c pM pB cc0_scratch2 XP)) $$ HP
  ihave HG' := (entails_of_eq (idle_eq c gM gB cc0_scratch3 XG)) $$ HG
  icases HP' with ⟨⟨Hp0, Hp1, Hp2, HpR⟩, ⟨HPc0, ⟨%p0, HPs0⟩⟩, ⟨HPc1, ⟨%p1, HPs1⟩⟩, ⟨HPc2, ⟨%p2, HPs2⟩⟩⟩
  icases HG' with ⟨⟨Hg0, Hg1, Hg2, HgR⟩, ⟨HGc0, ⟨%g0, HGs0⟩⟩, ⟨HGc1, ⟨%g1, HGs1⟩⟩, ⟨HGc2, ⟨%g2, HGs2⟩⟩⟩
  sl_exec
  ihave HP := (entails_of_eq (ring_zero c pM pB cc0_scratch2 XP).symm) $$ [Hp2 HpR HPc0 HPc1 HPc2 HPs2]
  · isplitl [Hp2 HpR]; · isplitl [Hp2]; · iexact Hp2
                         iexact HpR
    isplitl [HPc0]; · iexists p0; iexact HPc0
    isplitl [HPc1]; · iexists p1; iexact HPc1
    isplitl [HPc2]; · iexact HPc2
    iexists p2; iexact HPs2
  ihave HG := (entails_of_eq (ring_zero c gM gB cc0_scratch3 XG).symm) $$ [Hg2 HgR HGc0 HGc1 HGc2 HGs2]
  · isplitl [Hg2 HgR]; · isplitl [Hg2]; · iexact Hg2
                         iexact HgR
    isplitl [HGc0]; · iexists g0; iexact HGc0
    isplitl [HGc1]; · iexists g1; iexact HGc1
    isplitl [HGc2]; · iexact HGc2
    iexists g2; iexact HGs2
  ihave HI0 := (show iprop(labP c arg2 XL ∗ (∃ W, owes (c : Thread nD τ) 0 W) ∗ ring c pM pB cc0_scratch2 XP 0 ∗ ring c gM gB cc0_scratch3 XG 0)
      ⊢ invAt c XP XG arg2 XL 0 (k0_pay86, k0_pay87) from by
    unfold invAt resAt
    iintro H
    isplitr; · ipureintro; rfl
    iexact H) $$ [HL HW HP HG]
  · isplitl [HL]; · iexact HL
    isplitl [HW]; · iexists W; iexact HW
    isplitl [HP]; · iexact HP
    iexact HG
  iapply (loop_run c XP XG arg2 harg2 XL arg3 harg3 _ _ _) $$ HI0
  iintro %a HI
  rw [trips_eq]
  unfold invAt resAt
  icases HI with ⟨%ea, HL, ⟨%W', HW⟩, HP, HG⟩
  rcases a with ⟨b9, b10⟩
  sl_exec
  sl_step
  iapply Hk
  isplitl [HL]; · iexact HL
  isplitl [HO]
  · iexists (arg3.view.writes (Elt F) f [⟨Rect.unit (s := S1x1) ![0, 0] S1x1.size inb_S1x1_S1x1_0_0, k0_pay4 b9 b10⟩])
    isplitr
    · ipureintro
      rw [View.read_writes_full]
      unfold outVal; rw [← ea]
    iexact HO
  isplitl [HP]; · iapply (idle_of_last c pM pB cc0_scratch2 XP); iexact HP
  isplitl [HG]; · iapply (idle_of_last c gM gB cc0_scratch3 XG); iexact HG
  iexists W'; iexact HW

end Cert.Proof.KernelIdeal

end
-- ==== Proof.IdealLaunch.lean ====
/-
  The launch of `KernelIdeal`: what the one call of the kernel is handed and hands back, and the whole program's run.
-/
module

public import proofs.«01_k».proof.Proof.IdealBody
public import proofs.«01_k».proof.Proof.Gen.KernelIdeal.Points
public import proofs.«01_k».proof.Proof.Gen.KernelIdeal.Launch
public import Idealize.ShloMosaic.Lib.Pipeline.FrameSuffix

@[expose] public section

set_option maxRecDepth 16384

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## An array is its 32 samples, a slot buffer its three slots -/

/-- The elements of sample `b`, and of slot `s`. -/
abbrev sampleSet (b : Fin 32) : Finset S544x512x128.Idx := (Rect.unit (s := S544x512x128) (sampleOff b) S17x512x128.size (sampleOff_inb b)).set
/-- The elements of slot `s`. -/
abbrev slotSet (s : Fin 3) : Finset S3x17x512x128.Idx := (Rect.unit (s := S3x17x512x128) (slotOff s) S1x17x512x128.size (slotOff_inb s)).set

/-- Two samples share no element; -/
theorem sample_disjoint : ∀ b b' : Fin 32, b ≠ b' → Disjoint (sampleSet b) (sampleSet b') :=
  Ring.lead_disjoint (s := S544x512x128) 0 17 sampleOff S17x512x128.size sampleOff_inb (fun _ => rfl) rfl
/-- every element is in a sample; -/
theorem sample_cover : (Finset.univ : Finset (Fin 32)).biUnion sampleSet = Finset.univ :=
  Ring.lead_cover (s := S544x512x128) 0 17 sampleOff S17x512x128.size sampleOff_inb (fun _ => rfl) (by decide) rfl (by decide) rfl
/-- two slots share no element; -/
theorem slot_disjoint : ∀ s s' : Fin 3, s ≠ s' → Disjoint (slotSet s) (slotSet s') :=
  Ring.lead_disjoint (s := S3x17x512x128) 0 1 slotOff S1x17x512x128.size slotOff_inb (fun b => (Nat.one_mul b.val).symm) rfl
/-- every element is in a slot. -/
theorem slot_cover : (Finset.univ : Finset (Fin 3)).biUnion slotSet = Finset.univ :=
  Ring.lead_cover (s := S3x17x512x128) 0 1 slotOff S1x17x512x128.size slotOff_inb (fun b => (Nat.one_mul b.val).symm) (by decide) rfl (by decide) rfl

/-- The elements of a sample's view, in the first array; -/
theorem sample_set_p (b : Fin 32) : (sample pM b).view.set = sampleSet b := View.set_slice_whole _ _
/-- and in the second. -/
theorem sample_set_g (b : Fin 32) : (sample gM b).view.set = sampleSet b := View.set_slice_whole _ _
/-- The elements of a slot's view, in the first buffer; -/
theorem slot_set_p (s : Fin 3) : (slot pB s).view.set = slotSet s := (View.set_reshape _ _).trans (View.set_slice_whole _ _)
/-- and in the second. -/
theorem slot_set_g (s : Fin 3) : (slot gB s).view.set = slotSet s := (View.set_reshape _ _).trans (View.set_slice_whole _ _)

section Split
variable (c : Dev nD)

/-- The first array held is its 32 samples held; -/
theorem homes_p (X : Buf (Elt F) (pM.view.loc (c : Thread nD τ))) :
    (((c : Thread nD τ).loc main_call0_v0) ↦{fullShare} X : sProp 𝕄) = bigSep Finset.univ (homeP c pM X) := by
  rw [Ring.pointsTo_blocks (ℓ := (c : Thread nD τ).loc main_call0_v0) sampleSet sample_disjoint sample_cover]
  exact bigSep_congr fun b _ => by rw [← sample_set_p]; rfl
/-- so is the second. -/
theorem homes_g (X : Buf (Elt F) (gM.view.loc (c : Thread nD τ))) :
    (((c : Thread nD τ).loc main_call0_v1) ↦{fullShare} X : sProp 𝕄) = bigSep Finset.univ (homeP c gM X) := by
  rw [Ring.pointsTo_blocks (ℓ := (c : Thread nD τ).loc main_call0_v1) sampleSet sample_disjoint sample_cover]
  exact bigSep_congr fun b _ => by rw [← sample_set_g]; rfl

/-- A slot held is those elements of its buffer held, for the first buffer; -/
theorem slotP_p (s : Fin 3) (f) : slotP c pB s f = (((c : Thread nD τ).loc cc0_scratch0) ↦[slotSet s]{fullShare} f : sProp 𝕄) :=
  congrArg (fun S => (_ ↦[S]{fullShare} f : sProp 𝕄)) (slot_set_p s)
/-- and for the second. -/
theorem slotP_g (s : Fin 3) (f) : slotP c gB s f = (((c : Thread nD τ).loc cc0_scratch1) ↦[slotSet s]{fullShare} f : sProp 𝕄) :=
  congrArg (fun S => (_ ↦[S]{fullShare} f : sProp 𝕄)) (slot_set_g s)

/-- A buffer held, its contents unnamed. -/
abbrev buf (b : Ref sig .tc) : sProp 𝕄 :=
  iprop(∃ f : Buf (Elt F) ((c : Thread nD τ).loc b), ((c : Thread nD τ).loc b) ↦{fullShare} f)
/-- The three slots of a buffer held, their contents unnamed. -/
abbrev slots (B : Memref sig .tc .vmem S3x17x512x128 .f32) : sProp 𝕄 :=
  iprop((∃ f, slotP c B 0 f) ∗ (∃ f, slotP c B 1 f) ∗ ∃ f, slotP c B 2 f)

/-- The first buffer falls into its slots, -/
theorem split_p : buf c cc0_scratch0 ⊢ (slots c pB : sProp 𝕄) :=
  Ring.slots3_split (ℓ := (c : Thread nD τ).loc cc0_scratch0) slotSet slot_disjoint slot_cover (slotP c pB 0) (slotP c pB 1) (slotP c pB 2)
    (slotP_p c 0) (slotP_p c 1) (slotP_p c 2)
/-- and the slots make the buffer again. -/
theorem join_p : slots c pB ⊢ (buf c cc0_scratch0 : sProp 𝕄) :=
  Ring.slots3_join (ℓ := (c : Thread nD τ).loc cc0_scratch0) slotSet slot_disjoint slot_cover (slotP c pB 0) (slotP c pB 1) (slotP c pB 2)
    (slotP_p c 0) (slotP_p c 1) (slotP_p c 2)
/-- The same of the second buffer, -/
theorem split_g : buf c cc0_scratch1 ⊢ (slots c gB : sProp 𝕄) :=
  Ring.slots3_split (ℓ := (c : Thread nD τ).loc cc0_scratch1) slotSet slot_disjoint slot_cover (slotP c gB 0) (slotP c gB 1) (slotP c gB 2)
    (slotP_g c 0) (slotP_g c 1) (slotP_g c 2)
/-- both ways. -/
theorem join_g : slots c gB ⊢ (buf c cc0_scratch1 : sProp 𝕄) :=
  Ring.slots3_join (ℓ := (c : Thread nD τ).loc cc0_scratch1) slotSet slot_disjoint slot_cover (slotP c gB 0) (slotP c gB 1) (slotP c gB 2)
    (slotP_g c 0) (slotP_g c 1) (slotP_g c 2)

/-- The three semaphores of a ring, at zero. -/
abbrev cells (E : DmaSems sig S3) : sProp 𝕄 := iprop(cellP c E 0 ∗ cellP c E 1 ∗ cellP c E 2)

/-- A ring at rest is its samples, its semaphores and its slots. -/
theorem idle_parts (A : Memref sig .tc .hbm S544x512x128 .f32) (B : Memref sig .tc .vmem S3x17x512x128 .f32) (E : DmaSems sig S3)
    (X : Buf (Elt F) (A.view.loc (c : Thread nD τ))) :
    idle c A B E X = (iprop(bigSep Finset.univ (homeP c A X) ∗ (cellP c E 0 ∗ ∃ f, slotP c B 0 f) ∗ (cellP c E 1 ∗ ∃ f, slotP c B 1 f)
      ∗ (cellP c E 2 ∗ ∃ f, slotP c B 2 f)) : sProp 𝕄) := by
  unfold idle Ring.At₀
  rw [bigSep_univ_eq_bigSepL [(0 : Fin 3), (1 : Fin 3), (2 : Fin 3)] (by decide) (by decide)]
  rfl
/-- Samples, semaphores and slots make a ring at rest, -/
theorem idle_intro (A : Memref sig .tc .hbm S544x512x128 .f32) (B : Memref sig .tc .vmem S3x17x512x128 .f32) (E : DmaSems sig S3)
    (X : Buf (Elt F) (A.view.loc (c : Thread nD τ))) :
    iprop(bigSep Finset.univ (homeP c A X) ∗ cells c E ∗ slots c B) ⊢ (idle c A B E X : sProp 𝕄) := by
  refine BIBase.Entails.trans ?_ (entails_of_eq (idle_parts c A B E X).symm)
  iintro ⟨H, ⟨C0, C1, C2⟩, S0, S1, S2⟩
  isplitl [H]; · iexact H
  isplitl [C0 S0]; · isplitl [C0]; · iexact C0
                     iexact S0
  isplitl [C1 S1]; · isplitl [C1]; · iexact C1
                     iexact S1
  isplitl [C2]; · iexact C2
  iexact S2
/-- and a ring at rest falls into them. -/
theorem idle_elim (A : Memref sig .tc .hbm S544x512x128 .f32) (B : Memref sig .tc .vmem S3x17x512x128 .f32) (E : DmaSems sig S3)
    (X : Buf (Elt F) (A.view.loc (c : Thread nD τ))) :
    (idle c A B E X : sProp 𝕄) ⊢ iprop(bigSep Finset.univ (homeP c A X) ∗ cells c E ∗ slots c B) := by
  refine BIBase.Entails.trans (entails_of_eq (idle_parts c A B E X)) ?_
  iintro ⟨H, ⟨C0, S0⟩, ⟨C1, S1⟩, C2, S2⟩
  isplitl [H]; · iexact H
  isplitl [C0 C1 C2]
  · isplitl [C0]; · iexact C0
    isplitl [C1]; · iexact C1
    iexact C2
  isplitl [S0]; · iexact S0
  isplitl [S1]; · iexact S1
  iexact S2

end Split

/-! ## The kernel's own semaphores and arrays -/

/-- The six semaphores: three for each ring. -/
abbrev osem : Fin 2 × Fin 3 → SemLoc sig := fun i => .dma (cell (if i.1 = 0 then cc0_scratch2 else cc0_scratch3) i.2).sem
/-- They are distinct, and none is one of the call's own. -/
theorem ownSemFacts : Pipeline.OwnSemFacts spec0 osem := by decide

/-- The two arrays the kernel moves itself. -/
abbrev moved : Finset (Ref sig .tc) := {main_call0_v0, main_call0_v1}
/-- Neither is an array the call moves. -/
theorem moved_sub : moved ⊆ Pipeline.restRefs sig spec0 := by decide

/-- The six semaphores at zero, one by one. -/
theorem ownSems0_eq (c : Dev nD) : (Pipeline.ownSems0 (Ix := Unit) (Name := ℕ) (U := UU) (Lvl := ℕ) (Val := Elt F) (τ := τ) osem c : sProp 𝕄)
    = iprop(cellP c cc0_scratch2 0 ∗ cellP c cc0_scratch2 1 ∗ cellP c cc0_scratch2 2 ∗ cellP c cc0_scratch3 0 ∗ cellP c cc0_scratch3 1
        ∗ cellP c cc0_scratch3 2) := by
  unfold Pipeline.ownSems0
  rw [bigSep_univ_eq_bigSepL [((0 : Fin 2), (0 : Fin 3)), (0, 1), (0, 2), (1, 0), (1, 1), (1, 2)] (by decide) (by decide)]
  rfl

/-- The two arrays, sample by sample. -/
theorem moved_eq (c : Dev nD) : (bigSep moved (fun b => ((c : Thread nD τ).loc b) ↦{fullShare} V m c b) : sProp 𝕄)
    = iprop(bigSep Finset.univ (homeP c pM (V m c main_call0_v0)) ∗ bigSep Finset.univ (homeP c gM (V m c main_call0_v1))) := by
  rw [bigSep_insert (by decide), bigSep_singleton, homes_p, homes_g]; rfl

/-! ## The call's data -/

/-- What holds around the call: both rings at rest. -/
def Φ (c : Dev nD) : sProp 𝕄 :=
  iprop(idle c pM pB cc0_scratch2 (V m c main_call0_v0) ∗ idle c gM gB cc0_scratch3 (V m c main_call0_v1) ∗ ∃ r, prngReg c r)

/-- The window of the labels, -/
abbrev st0 (t : Fin cfg0.N) : Memref sig .tc .smem S32 .i32 := win0_0.stage (cfg0.slots t 0)
/-- the window of the result, -/
abbrev st1 (t : Fin cfg0.N) : Memref sig .tc .vmem S1x1 .f32 := win0_1.stage (cfg0.slots t 1)
/-- each the whole of its buffer: -/
abbrev hst0 (t : Fin cfg0.N) : (st0 t).IsWhole := hstage0_0 0
/-- this for the result. -/
abbrev hst1 (t : Fin cfg0.N) : (st1 t).IsWhole := hstage0_1 0

/-- What the call leaves in the result's window. -/
def outAt (c : Dev nD) (t : Fin cfg0.N) : Vec F S1x1 .f32 :=
  outVal c (V m c main_call0_v0) (V m c main_call0_v1) (st0 t) ((st0 t).view.rep (iblk m c 0 t))

/-- The call's data: the labels' window is left as it was, the result's window holds the result. -/
def dats (_ : Fin 1) (c : Dev nD) : Dat τ (Elt F) Unit ℕ UU ℕ cfg0 c where
  A w := V m c (Pipeline.arrRef spec0 w)
  after w t := match w with
    | ⟨0, _⟩ => iblk m c 0 t
    | ⟨1, _⟩ => outAt m c t
  Φ _ := Φ m c
  q _ := fullShare
  owed _ := 0

/-- The body finds the labels in their window, -/
theorem before_w0 (c : Dev nD) (t : Fin cfg0.N) (d) : (dats m 0 c).before 0 t d = iblk m c 0 t := by
  unfold Dat.before; rw [if_pos (fetch0_0 t)]; unfold Dat.fetched Dat.blockOf iblk; dsimp only [dats]; rfl
/-- and leaves them there; -/
theorem after_w0 (c : Dev nD) (t : Fin cfg0.N) : (dats m 0 c).after 0 t = iblk m c 0 t := by dsimp only [dats]
/-- it leaves the result in its window. -/
theorem after_w1 (c : Dev nD) (t : Fin cfg0.N) : (dats m 0 c).after 1 t = outAt m c t := by dsimp only [dats]

/-- The function the call runs is the body, -/
theorem defs_tc : (defs₀ (F := F)) .tc cfg0.body
    = fun a => bodyG (win0_0.stage (a.2 0)) (hstage0_0 0) (win0_1.stage (a.2 1)) (hstage0_1 0) := rfl
/-- at the two windows. -/
theorem prog_eq (t : Fin cfg0.N) : (defs₀ (F := F)) .tc cfg0.body (cfg0.bodyArgs t (cfg0.slots t)) = bodyG (st0 t) (hst0 t) (st1 t) (hst1 t) :=
  (congrFun defs_tc _).trans rfl

set_option backward.isDefEq.respectTransparency.types false in
/-- The body meets what the call's data says of it. -/
theorem body_obligation (c : Dev nD) : BodyObligation (dats (F := F) m 0 c) (defs₀ (F := F)) 𝒱₀ () Set.univ := fun t => by
  rw [bigSep_W0, bigSep_W0]
  dsimp only
  simp only [before_w0, after_w0, after_w1]
  rw [show (dats m 0 c).Φ t.castSucc = Φ m c from rfl, show (dats m 0 c).Φ t.succ = Φ m c from rfl]
  unfold Dat.owesAt Pipeline.owesWithin
  rw [show (dats m 0 c).owed t.castSucc = 0 from rfl, show (dats m 0 c).owed t.succ = 0 from rfl]
  unfold owns Φ
  iintro ⟨⟨HP, HG, Hr⟩, ⟨%W, -, HW⟩, ⟨%d0, %g0, %hg0, HL⟩, ⟨%d1, %gO, -, HO⟩⟩
  ihave HL' := (pointsTo_rep_entails (c : Thread nD τ) (st0 t) g0 fullShare) $$ HL
  rw [hg0]
  sl_rw [prog_eq t]
  iapply (bodyRun c (V m c main_call0_v0) (V m c main_call0_v1) (st0 t) (hst0 t) ((st0 t).view.rep (iblk m c 0 t)) (st1 t) (hst1 t) gO W)
  isplitl [HL' HO HP HG HW]
  · isplitl [HL']; · iexact HL'
    isplitl [HO]; · iexact HO
    isplitl [HP]; · iexact HP
    isplitl [HG]; · iexact HG
    iexact HW
  · iintro ⟨HL, ⟨%fo, %hfo, HO⟩, HP, HG, ⟨%W', HW⟩⟩
    isplitl [HP HG Hr]
    · isplitl [HP]; · iexact HP
      isplitl [HG]; · iexact HG
      iexact Hr
    isplitl [HW]
    · iexists W'; isplitr; · ipureintro; exact fun _ _ => Or.inl trivial
      iexact HW
    isplitl [HL]
    · iexists _; isplitr; · ipureintro; exact View.read_rep _ _
      iexact HL
    iexists fo; isplitr; · ipureintro; exact hfo
    iexact HO

/-! ## The run -/

/-- The line after the call touches neither of the two arrays. -/
theorem sfx_subBut : ∀ ops ∈ ([hostOps1] : List (List (HloOp τ sig (Elt F)))), ∀ op ∈ ops,
    op.bufs ⊆ Pipeline.tailRefsBut sig Pipeline.Prefetch.none spec0 moved := by
  intro ops hops op hop
  simp only [List.mem_cons, List.mem_nil_iff, or_false] at hops
  subst hops
  refine Pipeline.sub_tailRefsBut _ _ _ op ((List.forall_iff_forall_mem.mp hostOps1_sub) op hop) (fun k => k.elim0) ?_
  simp only [hostOps1, List.mem_cons, List.mem_nil_iff, or_false] at hop
  subst hop
  intro b hb
  simp only [moved, Finset.mem_insert, Finset.mem_singleton] at hb
  rcases hb with rfl | rfl <;>
    simp only [StableHlo.reshape_bufs, Finset.mem_insert, Finset.mem_singleton, not_or] <;>
    exact ⟨StableHlo.devRef_ne_of_ne (by decide), StableHlo.devRef_ne_of_ne (by decide)⟩

/-- From any memory with zero counters: every weakly fair execution ends with every array at the contents the call's
    data gives, the lines after the call run on them, and every semaphore counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_dma_around cfgs (dats m) 0 launch0 osem defs₀ 𝒱₀ ownSemFacts moved moved_sub m ρ main
    (hbody := fun c => (body_obligation m c).loose) (hshare := fun c => (dats m 0 c).share_full fun _ => rfl)
    (howed := fun _ _ => rfl) (V₀ := V0 m) (opss := [hostOps1]) (hsub := sfx_subBut) (hfresh := sfx_fresh) (hkeep := sfx_keeps)
    (hmain := Pipeline.hmain_around cfgs 0 defs₀ 𝒱₀ m main [hostOps0] [hostOps1] (by simp only [List.Forall]; exact hostOps0_sub)
      (by simp only [List.Forall]; exact hostOps0_fresh) main_chain)
    (hA := fun _ _ => rfl)
    (hin := fun c => by
      rw [Pipeline.ΦD_eq, scopedRest0_eq, ownSems0_eq, moved_eq m c, show (dats m 0 c).Φ 0 = Φ m c from rfl]
      unfold Φ
      iintro ⟨⟨HB, HC⟩, Hr, ⟨C0, C1, C2, D0, D1, D2⟩, HP, HG⟩
      isplitl [HB C0 C1 C2 HP]
      · iapply (idle_intro c pM pB cc0_scratch2 (V m c main_call0_v0))
        isplitl [HP]; · iexact HP
        isplitl [C0 C1 C2]
        · isplitl [C0]; · iexact C0
          isplitl [C1]; · iexact C1
          iexact C2
        iapply (split_p c); iexact HB
      isplitl [HC D0 D1 D2 HG]
      · iapply (idle_intro c gM gB cc0_scratch3 (V m c main_call0_v1))
        isplitl [HG]; · iexact HG
        isplitl [D0 D1 D2]
        · isplitl [D0]; · iexact D0
          isplitl [D1]; · iexact D1
          iexact D2
        iapply (split_g c); iexact HC
      iexact Hr)
    (hout := fun c => by
      rw [Pipeline.ΦD_eq, scopedRest0_eq, ownSems0_eq, moved_eq m c, show (dats m 0 c).Φ (Fin.last cfg0.N) = Φ m c from rfl]
      unfold Φ
      iintro ⟨HP, HG, Hr⟩
      ihave HP' := (idle_elim c pM pB cc0_scratch2 (V m c main_call0_v0)) $$ HP
      ihave HG' := (idle_elim c gM gB cc0_scratch3 (V m c main_call0_v1)) $$ HG
      icases HP' with ⟨HP, ⟨C0, C1, C2⟩, HB⟩
      icases HG' with ⟨HG, ⟨D0, D1, D2⟩, HC⟩
      isplitl [HB HC]
      · isplitl [HB]; · iapply (join_p c); iexact HB
        iapply (join_g c); iexact HC
      isplitl [Hr]; · iexact Hr
      isplitl [C0 C1 C2 D0 D1 D2]
      · isplitl [C0]; · iexact C0
        isplitl [C1]; · iexact C1
        isplitl [C2]; · iexact C2
        isplitl [D0]; · iexact D0
        isplitl [D1]; · iexact D1
        iexact D2
      isplitl [HP]; · iexact HP
      iexact HG)
    (Q' := fun r => Pipeline.FramePost cfgs (dats m) 0 (Pipeline.afterTail₀ cfgs (dats m) 0 (V0 m) [hostOps1]) r ∧ r.2.sem = fun _ => 0)
    (hQ' := fun _ h => h)

end Cert.Proof.KernelIdeal

end
-- ==== Proof.IdealFrame.lean ====
/-
  What the run of `KernelIdeal` ends with: its arguments unchanged, its result a function of them, every semaphore
  counter at zero.
-/
module

public import proofs.«01_k».proof.Proof.IdealLaunch
public import Idealize.ShloMosaic.Lib.Pipeline.Value

@[expose] public section

set_option maxRecDepth 16384

noncomputable section

namespace Cert.Proof.KernelIdeal

open Cert.KernelIdeal Cert.KernelIdeal.Gen
open Idealize.ShloMosaic
open Idealize.ShloMosaic.TcCoe Idealize.ShloMosaic.Tactic
open Idealize.SL.Sem
open Idealize.ShloMosaic.Pipeline (Dat)

variable {F : FTy → Type} [FloatOps F]

variable (m : (ℓ : Loc nD τ sig) → Buf (Elt F) ℓ) (ρ : Dev nD → PrngReg)

/-- The line after the call writes the result alone: a buffer that is neither an array of the call nor the result ends
    as the call found it. -/
theorem tail_ne (c : Dev nD) (b : Ref sig .tc) (hb : Proc.devRef .tc b ≠ Proc.devRef (τ := τ) .tc main_v0)
    (ha : ∀ w, Pipeline.arrRef spec0 w ≠ b) : Pipeline.afterTail₀ cfgs (dats m) 0 (V0 m) [hostOps1] c b = V m c b := by
  unfold Pipeline.afterTail₀
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.reshape_writes, Finset.mem_singleton]
      exact hb)),
    Pipeline.withArrays_of_ne _ c (V0 m c) _ b (by exact ha)]

/-- A one-by-one shape has one index. -/
theorem idx_one (i j : S1x1.Idx) : i = j :=
  funext fun a => by fin_cases a <;> exact Subsingleton.elim (α := Fin 1) _ _

/-- The one element of the result's array after the call is what the call left in its window. -/
theorem result_array (c : Dev nD) : (dats m 0 c).arrAt 1 cfg0.N = outAt m c t0_0 := by
  refine Dat.arrAt_eq_of_cover _ 1 _ (fun t _ => ?_) (fun i => ⟨t0_0, flush0_1 _, ?_⟩)
  · rw [fin_N0 t]
    funext y
    rw [View.read_apply]
    show outAt m c t0_0 _ = outAt m c t0_0 _
    congr 1
    exact idx_one _ _
  · have : ((cfg0.win 1).blk t0_0).view.emb (Shape.Idx.first (s := S1x1) (by decide)) = i := idx_one _ _
    rw [← this]
    exact View.emb_mem_set _ _

/-- The result of the program: the call's one value, as a scalar. -/
def result (c : Dev nD) : Vec F S_ .f32 := shapeCast S_ (outAt m c t0_0) shapeCasts_S1x1_S_

/-- The line after the call leaves the result in the scalar. -/
theorem tail_result (c : Dev nD) : Pipeline.afterTail₀ cfgs (dats m) 0 (V0 m) [hostOps1] c main_v0 = result m c := by
  unfold Pipeline.afterTail₀ result
  rw [← result_array m c]
  simp only [List.flatten_cons, List.flatten_nil, List.append_nil, hostOps1, StableHlo.TRef.reshape]
  after_results
  exact congrArg (fun x => shapeCast S_ x shapeCasts_S1x1_S_) (Pipeline.withArrays_arr spec0 launch0.win.arr_inj c _ _ 1)

/-- The run's end, read at the arguments, the result and the counters. -/
theorem run_end : θ_run defs (onTc (τ := τ) (main (F := F))) ⟨m, fun _ => 0, ρ⟩ (fun r => (∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨((h.1 c).2 main_v0 (Pipeline.mem_restRefs_of main_v0 (by decide) (by decide))).trans (tail_result m c),
     ((h.1 c).2 main_arg0 (Pipeline.mem_restRefs_of main_arg0 (by decide) (by decide))).trans
      ((tail_ne m c main_arg0 (StableHlo.devRef_ne_of_ne (by decide)) (by decide)).trans (V_main_arg0 m c)),
     ((h.1 c).2 main_arg1 (Pipeline.mem_restRefs_of main_arg1 (by decide) (by decide))).trans
      ((tail_ne m c main_arg1 (StableHlo.devRef_ne_of_ne (by decide)) (by decide)).trans (V_main_arg1 m c)),
     ((h.1 c).1 0).trans (((dats m 0 c).arrAt_in 0 rfl _).trans (V_main_arg2 m c))⟩, h.2⟩) (run_main m ρ)

end Cert.Proof.KernelIdeal

end
-- ==== Proof.Loss.lean ====
/-
  The loss as mathematics: over the extended reals, from two arrays of 32 samples of 17 planes of 256 by 256 and 32
  labels, with the facts about finite sums and suprema both programs' readings use. Nothing here mentions a program.
-/
module

public import Idealize.ShloMosaic.PureOps.Ideal.Laws
public import Idealize.ShloMosaic.Lib.Pointwise.Index
public import Idealize.ShloMosaic.Lib.Pointwise.Reshape
public import Idealize.ShloMosaic.Lib.Pipeline.Value
public import Idealize.ShloMosaic.Lib.IdealHost

@[expose] public section

noncomputable section

namespace Cert.Proof.Loss

open Idealize.ShloMosaic

/-- An array of 32 samples of 17 planes of 256 by 256. -/
abbrev Arr := (⟨4, ![32, 17, 256, 256]⟩ : Shape).Idx → EReal

section
variable (X Y : Arr) (lab : Fin 32 → BitVec 32)

/-- The sum of a plane. -/
def area (b : Fin 32) (c : Fin 17) : EReal := ∑ i : Fin 256, ∑ j : Fin 256, X (ix4 b c i j)
/-- The sum of the products of two planes. -/
def overlap (b : Fin 32) (c : Fin 17) : EReal := ∑ i : Fin 256, ∑ j : Fin 256, Y (ix4 b c i j) * X (ix4 b c i j)
/-- The largest element of a plane. -/
def peak (b : Fin 32) (c : Fin 17) : EReal := ⨆ i : Fin 256, ⨆ j : Fin 256, Y (ix4 b c i j)

/-- The weight of class `c` under label `l`: 1 at the label's class, the 32-bit float nearest one seventeenth elsewhere. -/
def weight (l : BitVec 32) (c : Fin 17) : EReal :=
  if BitVec.ofNat 32 c.val = l then Ideal.ofBits .f32 0x3F800000#32 else Ideal.ofBits .f32 0x3D70F0F1#32

/-- The weighted ratio of a plane: its area outside the overlap over the overlap. -/
def ratio (b : Fin 32) (c : Fin 17) : EReal :=
  Ideal.div (area X b c - overlap X Y b c) (overlap X Y b c + Ideal.ofBits .f32 0x358637BD#32) * weight (lab b) c

/-- What class `c` of sample `b` contributes: nothing where its plane of `Y` has largest element zero. -/
def term (b : Fin 32) (c : Fin 17) : EReal := if peak Y b c ≠ 0 then ratio X Y lab b c else 0

/-- The contributions of all classes of all samples. -/
def total : EReal := ∑ b : Fin 32, ∑ c : Fin 17, term X Y lab b c

/-- How many samples have a class whose plane of `Y` has a nonzero largest element. -/
def count : ℕ := (Finset.univ.filter fun b : Fin 32 => ∃ c : Fin 17, peak Y b c ≠ 0).card

/-- The loss. -/
def loss : EReal := if total X Y lab = 0 then 0 else Ideal.div (Ideal.log (total X Y lab)) (max (count Y : EReal) 1)
end

/-! ### The constants -/

/-- The word of minus infinity. -/
theorem ofBits_negInf : Ideal.ofBits .f32 0xFF800000#32 = ⊥ := by simp [Ideal.ofBits, Ideal.ieee]

/-- A choice by equality of words. -/
theorem select_eq (a l : BitVec 32) (x y : EReal) :
    Scalar.select (IntOp.cmpi .eq a l) x y = if l = a then x else y := by
  by_cases h : l = a
  · subst h; simp [IntOp.cmpi, Scalar.select]
  · have h' : a ≠ l := fun e => h e.symm
    simp [IntOp.cmpi, Scalar.select, h, beq_eq_false_iff_ne.mpr h']

/-- The weight, its word of one read. -/
theorem weight_eq (l : BitVec 32) (c : Fin 17) : weight l c = if BitVec.ofNat 32 c.val = l then 1 else Ideal.ofBits .f32 0x3D70F0F1#32 := by
  unfold weight
  rw [Ideal.ofBits_one_f32]

/-! ### Suprema -/

/-- A fold of `max` from the least element is the supremum. -/
theorem fold_max_eq_iSup {ι : Type} [Fintype ι] (f : ι → EReal) : (Finset.univ : Finset ι).fold max ⊥ f = ⨆ i, f i :=
  Finset.sup_univ_eq_iSup f

/-- No element exceeds the largest of its plane. -/
theorem le_peak (Y : Arr) (b : Fin 32) (c : Fin 17) (i j : Fin 256) : Y (ix4 b c i j) ≤ peak Y b c :=
  (le_iSup (fun j => Y (ix4 b c i j)) j).trans (le_iSup (fun i => ⨆ j, Y (ix4 b c i j)) i)

/-- Where `Y` has no negative element no largest element is negative. -/
theorem peak_nonneg (Y : Arr) (hY : ∀ i, 0 ≤ Y i) (b : Fin 32) (c : Fin 17) : 0 ≤ peak Y b c :=
  (hY _).trans (le_peak Y b c 0 0)

/-- Where `Y` has no negative element, the largest of a sample's largest elements is nonzero when one of them is. -/
theorem iSup_peak_ne_zero (Y : Arr) (hY : ∀ i, 0 ≤ Y i) (b : Fin 32) : (⨆ c, peak Y b c) ≠ 0 ↔ ∃ c, peak Y b c ≠ 0 := by
  rw [← not_iff_not, not_not, not_exists]
  constructor
  · intro h c
    rw [not_not]
    exact le_antisymm (h ▸ le_iSup (peak Y b) c) (peak_nonneg Y hY b c)
  · intro h
    simp [fun c => not_not.mp (h c)]

/-! ### A plane of 256 by 256 read as 512 rows of 128 -/

/-- Row `h` of 128, column `l`, stands at row `h / 2`, column `128 (h mod 2) + l`. -/
def fold : Fin 128 × Fin 512 ≃ Fin 256 × Fin 256 where
  toFun p := (⟨p.2.val / 2, by omega⟩, ⟨128 * (p.2.val % 2) + p.1.val, by omega⟩)
  invFun q := (⟨q.2.val % 128, by omega⟩, ⟨2 * q.1.val + q.2.val / 128, by omega⟩)
  left_inv p := Prod.ext (Fin.ext (by simp; try omega)) (Fin.ext (by simp; try omega))
  right_inv q := Prod.ext (Fin.ext (by simp; try omega)) (Fin.ext (by simp; try omega))

/-- The sum over the 128 columns of the sums of 512 rows is the sum over the plane. -/
theorem sum_fold (f : Fin 256 → Fin 256 → EReal) :
    ∑ l : Fin 128, ∑ h : Fin 512, f (fold (l, h)).1 (fold (l, h)).2 = ∑ i : Fin 256, ∑ j : Fin 256, f i j := by
  rw [← Fintype.sum_prod_type' (f := fun l h => f (fold (l, h)).1 (fold (l, h)).2), ← Fintype.sum_prod_type' (f := f)]
  exact fold.sum_comp fun q => f q.1 q.2

/-- The largest over the 128 columns of the largest of 512 rows is the largest of the plane. -/
theorem iSup_fold (f : Fin 256 → Fin 256 → EReal) :
    ⨆ l : Fin 128, ⨆ h : Fin 512, f (fold (l, h)).1 (fold (l, h)).2 = ⨆ i : Fin 256, ⨆ j : Fin 256, f i j := by
  rw [← iSup_prod (f := fun p : Fin 128 × Fin 512 => f (fold p).1 (fold p).2), ← iSup_prod (f := fun q : Fin 256 × Fin 256 => f q.1 q.2)]
  exact fold.iSup_comp (g := fun q => f q.1 q.2)

/-- Row `h`, column `l` of plane `17 b + c` of the array in 544 planes of 512 by 128. -/
theorem flat_apply (X : Arr) (hs : (⟨4, ![32, 17, 256, 256]⟩ : Shape).ShapeCasts ⟨3, ![544, 512, 128]⟩) (b : Fin 32) (c : Fin 17)
    (h : Fin 512) (l : Fin 128) (p : Fin 544) (hp : p.val = 17 * b.val + c.val) :
    shapeCast ⟨3, ![544, 512, 128]⟩ X hs (ix3 p h l) = X (ix4 b c (fold (l, h)).1 (fold (l, h)).2) := by
  refine shapeCast_apply X hs _ _ ?_
  rw [Shape.rowMajor_val_four, Shape.rowMajor_val_three]
  show ((b.val * 17 + c.val) * 256 + h.val / 2) * 256 + (128 * (h.val % 2) + l.val) = (p.val * 512 + h.val) * 128 + l.val
  omega

end Cert.Proof.Loss

end
-- ==== Proof.IdealStep.lean ====
/-
  One trip of the kernel's loop over the extended reals: what the accumulators gain, from the planes the trip reads.
-/
module

public import proofs.«01_k».proof.Proof.IdealTrip
public import proofs.«01_k».proof.Proof.Loss
public import Idealize.ShloMosaic.Lib.Pointwise

@[expose] public section

set_option maxRecDepth 16384

noncomputable section

namespace Cert.Proof.KernelIdeal

open Cert.KernelIdeal Cert.KernelIdeal.Gen
open Idealize.ShloMosaic

/-- Seventeen rows of 128 on top of each other. -/
def stack (f : Fin 17 → FVec Ideal S1x128 .f32) : FVec Ideal S17x128 .f32 :=
  concatenate S17x128 0 (List.ofFn fun r : Fin 17 => (⟨S1x128, f r⟩ : (s : Shape) × (s.Idx → EReal)))
    concatenates_S1x128_S1x128_S1x128_S1x128_S1x128_S1x128_S1x128_S1x128_S1x128_S1x128_S1x128_S1x128_S1x128_S1x128_S1x128_S1x128_S1x128_S17x128_d0

/-- Row `r` of the stack is row `r`. -/
theorem stack_apply (f : Fin 17 → FVec Ideal S1x128 .f32) (r : Fin 17) (l : Fin 128) : stack f (ix2 r l) = f r (ix2 0 l) :=
  concatenate_ofFn_unit_apply (t := S17x128) (s₁ := S1x128) 0 f _ rfl rfl (ix2 r l) r rfl (ix2 0 l) fun b hb => by
    fin_cases b
    · exact absurd rfl hb
    · rfl

section
variable (P G : Fin 17 → Vec Ideal S1x1x512x128 .f32)

/-- The areas are sums over the columns of the stacked column sums; -/
theorem areaCols_eq : areaCols P =
    shapeCast S17x1 (multiReduction .add [1] S17 (stack fun r => k0_pay8 (P r))
      0x00000000#32 reduces_S17x128_S17 (.inl rfl) rfl) shapeCasts_S17_S17x1 := rfl
/-- so are the overlaps; -/
theorem overCols_eq : overCols P G =
    shapeCast S17x1 (multiReduction .add [1] S17 (stack fun r => k0_pay7 (P r) (G r))
      0x00000000#32 reduces_S17x128_S17 (.inl rfl) rfl) shapeCasts_S17_S17x1 := rfl
/-- the column maxima are stacked. -/
theorem maxCols_eq : maxCols G = stack fun r => k0_pay9 (G r) := rfl

/-- The sum of a column of a plane; -/
theorem sumRow_apply (W : FVec Ideal S1x1x512x128 .f32) (l : Fin 128) : k0_pay8 W (ix2 0 l) = ∑ h : Fin 512, W (ix4 0 0 h l) := by
  simp only [k0_pay8, k0_pay5, pointwise]
/-- of the product of two planes; -/
theorem mulRow_apply (W Z : FVec Ideal S1x1x512x128 .f32) (l : Fin 128) :
    k0_pay7 W Z (ix2 0 l) = ∑ h : Fin 512, Z (ix4 0 0 h l) * W (ix4 0 0 h l) := by
  simp only [k0_pay7, k0_pay5, k0_pay6, pointwise]
/-- the largest element of a column. -/
theorem maxRow_apply (W : FVec Ideal S1x1x512x128 .f32) (l : Fin 128) : k0_pay9 W (ix2 0 l) = ⨆ h : Fin 512, W (ix4 0 0 h l) := by
  simp only [k0_pay9, k0_pay6, pointwise]
  rw [Loss.ofBits_negInf, Loss.fold_max_eq_iSup]

/-- The area of class `r`: the sum of its plane. -/
theorem areaCols_apply (r : Fin 17) : areaCols P (ix2 r 0) = ∑ l : Fin 128, ∑ h : Fin 512, P r (ix4 0 0 h l) := by
  rw [areaCols_eq]
  simp only [pointwise, stack_apply, sumRow_apply]
/-- The overlap of class `r`: the sum of the products. -/
theorem overCols_apply (r : Fin 17) : overCols P G (ix2 r 0) = ∑ l : Fin 128, ∑ h : Fin 512, G r (ix4 0 0 h l) * P r (ix4 0 0 h l) := by
  rw [overCols_eq]
  simp only [pointwise, stack_apply, mulRow_apply]
/-- The largest element of class `r`. -/
theorem maxCols_apply (r : Fin 17) : k0_pay1 (maxCols G) (ix2 r 0) = ⨆ l : Fin 128, ⨆ h : Fin 512, G r (ix4 0 0 h l) := by
  rw [maxCols_eq]
  simp only [k0_pay1, pointwise, stack_apply, maxRow_apply]
  rw [Loss.ofBits_negInf, Loss.fold_max_eq_iSup]

/-- What the step makes of the first accumulator: the weighted ratio is added where the largest element is nonzero. -/
theorem pay2_apply (a9 : FVec Ideal S17x1 .f32) (M : FVec Ideal S17x128 .f32) (V A : FVec Ideal S17x1 .f32) (lab : BitVec 32) (r : Fin 17) :
    k0_pay2 a9 M V A lab (ix2 r 0) = a9 (ix2 r 0) + if k0_pay1 M (ix2 r 0) ≠ 0 then
      Ideal.div (A (ix2 r 0) - V (ix2 r 0)) (V (ix2 r 0) + Ideal.ofBits .f32 0x358637BD#32) * Loss.weight lab r else 0 := by
  unfold k0_pay2
  generalize k0_pay1 M = K
  simp only [pointwise]
  simp only [List.foldl, Nat.zero_mul, Nat.zero_add]
  rw [Loss.weight_eq, Loss.select_eq]
  simp only [eq_comm (a := lab)]
  rfl
/-- What the step makes of the second: one is added where the largest of the largest elements is nonzero. -/
theorem pay3_apply (a10 : FVec Ideal S1x1 .f32) (M : FVec Ideal S17x128 .f32) :
    k0_pay3 a10 M (ix2 0 0) = a10 (ix2 0 0) + if (⨆ r : Fin 17, k0_pay1 M (ix2 r 0)) ≠ 0 then 1 else 0 := by
  unfold k0_pay3
  generalize k0_pay1 M = K
  simp only [pointwise]
  rw [Loss.ofBits_negInf, Loss.fold_max_eq_iSup]
/-- What the kernel makes of the accumulators in the end. -/
theorem pay4_apply (a : FVec Ideal S17x1 .f32) (b : FVec Ideal S1x1 .f32) :
    k0_pay4 a b (ix2 0 0) = if (∑ r : Fin 17, a (ix2 r 0)) = 0 then 0 else Ideal.div (Ideal.log (∑ r : Fin 17, a (ix2 r 0))) (max (b (ix2 0 0)) 1) := by
  unfold k0_pay4
  simp only [pointwise]
end
end Cert.Proof.KernelIdeal

end
-- ==== Proof.IdealValue.lean ====
/-
  The result of the idealized program as a function of its arguments: the loss, where the second argument has no
  negative element.
-/
module

public import proofs.«01_k».proof.Proof.IdealStep
public import proofs.«01_k».proof.Proof.IdealFrame

@[expose] public section

set_option maxRecDepth 16384

noncomputable section

namespace Cert.Proof.KernelIdeal

open Cert.KernelIdeal Cert.KernelIdeal.Gen
open Idealize.ShloMosaic
open Idealize.ShloMosaic.TcCoe

variable (m : (ℓ : Loc nD τ sig) → Buf (Elt Ideal) ℓ) (c : Dev nD)

/-- The two float arguments and the labels. -/
abbrev X₀ : Loss.Arr := m ((c.tc : Thread nD τ).loc main_arg0)
/-- The second argument. -/
abbrev Y₀ : Loss.Arr := m ((c.tc : Thread nD τ).loc main_arg1)
/-- The labels. -/
abbrev L₀ : Fin 32 → BitVec 32 := fun b => m ((c.tc : Thread nD τ).loc main_arg2) (ix1 b)

/-! ### What the call finds in its arrays -/

/-- The first array is the first argument, reshaped; -/
theorem V_flat0 : V m c main_call0_v0 = shapeCast S544x512x128 (X₀ m c) shapeCasts_S32x17x256x256_S544x512x128 := by
  unfold V V0
  simp only [List.flatten_cons, List.flatten_nil, List.append_nil, hostOps0, StableHlo.TRef.reshape]
  after_results
  rfl
/-- the second array is the second argument, reshaped. -/
theorem V_flat1 : V m c main_call0_v1 = shapeCast S544x512x128 (Y₀ m c) shapeCasts_S32x17x256x256_S544x512x128 := by
  unfold V V0
  simp only [List.flatten_cons, List.flatten_nil, List.append_nil, hostOps0, StableHlo.TRef.reshape]
  after_results
  rfl

/-- A trip as a sample. -/
abbrev trip (k : Fin k0_t1_loop.trips) : Fin 32 := ⟨k.val, trip_lt k⟩

/-- The label word of trip `k` is label `k`. -/
theorem labWord_eq (k : Fin k0_t1_loop.trips) :
    labWord (F := Ideal) c (st0 t0_0) ((st0 t0_0).view.rep (iblk m c 0 t0_0)) k = L₀ m c (trip k) := by
  have ho : ∀ k : Fin k0_t1_loop.trips, k0_off23 k 0 = k.val := by decide
  unfold labWord
  rw [View.readAt_rep]
  unfold iblk
  dsimp only
  rw [View.read_apply]
  refine (congrFun (V_main_arg2 m c) _).trans (congrArg (m ((c.tc : Thread nD τ).loc main_arg2)) (funext fun a => Fin.ext ?_))
  fin_cases a
  show 0 + 1 * (k0_off23 k 0 + 1 * 0) = k.val
  rw [ho k]
  omega

/-- Element `(r, h, l)` of sample `b` of an array of 544 planes. -/
theorem payload_p (X : Buf (Elt Ideal) (pM.view.loc (c : Thread nD τ))) (b : Fin 32) (r : Fin 17) (h : Fin 512) (l : Fin 128) :
    payload (F := Ideal) c pM X b (ix3 r h l) = X (ix3 (⟨17 * b.val + r.val, by omega⟩ : Fin 544) h l) := by
  refine congrArg X (funext fun a => Fin.ext ?_)
  fin_cases a
  · show 17 * b.val + 1 * r.val = 17 * b.val + r.val
    omega
  · show 0 + 1 * h.val = h.val
    omega
  · show 0 + 1 * l.val = l.val
    omega
/-- The same of the second array. -/
theorem payload_g (X : Buf (Elt Ideal) (gM.view.loc (c : Thread nD τ))) (b : Fin 32) (r : Fin 17) (h : Fin 512) (l : Fin 128) :
    payload (F := Ideal) c gM X b (ix3 r h l) = X (ix3 (⟨17 * b.val + r.val, by omega⟩ : Fin 544) h l) := by
  refine congrArg X (funext fun a => Fin.ext ?_)
  fin_cases a
  · show 17 * b.val + 1 * r.val = 17 * b.val + r.val
    omega
  · show 0 + 1 * h.val = h.val
    omega
  · show 0 + 1 * l.val = l.val
    omega

/-- Plane `r` trip `k` reads of the first array; -/
def planeP (k : Fin k0_t1_loop.trips) : Fin 17 → Vec Ideal S1x1x512x128 .f32 :=
  planeRead pB k (payload c pM (V m c main_call0_v0) (Ring.bk 32 k.val))
/-- and of the second. -/
def planeG (k : Fin k0_t1_loop.trips) : Fin 17 → Vec Ideal S1x1x512x128 .f32 :=
  planeRead gB k (payload c gM (V m c main_call0_v1) (Ring.bk 32 k.val))

/-- Trip `k` reads sample `k`. -/
theorem bk_trip (k : Fin k0_t1_loop.trips) : Ring.bk 32 k.val = trip k := Fin.ext (Nat.mod_eq_of_lt (trip_lt k))

/-- An element of plane `r`, in the first argument; -/
theorem planeP_apply (k : Fin k0_t1_loop.trips) (r : Fin 17) (h : Fin 512) (l : Fin 128) :
    planeP m c k r (ix4 0 0 h l) = X₀ m c (ix4 (trip k) r (Loss.fold (l, h)).1 (Loss.fold (l, h)).2) := by
  refine (planeRead_apply pB k _ r (ix4 0 0 h l)).trans ?_
  rw [bk_trip, V_flat0]
  exact (payload_p c _ (trip k) r h l).trans (Loss.flat_apply _ _ _ _ _ _ _ rfl)
/-- and in the second. -/
theorem planeG_apply (k : Fin k0_t1_loop.trips) (r : Fin 17) (h : Fin 512) (l : Fin 128) :
    planeG m c k r (ix4 0 0 h l) = Y₀ m c (ix4 (trip k) r (Loss.fold (l, h)).1 (Loss.fold (l, h)).2) := by
  refine (planeRead_apply gB k _ r (ix4 0 0 h l)).trans ?_
  rw [bk_trip, V_flat1]
  exact (payload_g c _ (trip k) r h l).trans (Loss.flat_apply _ _ _ _ _ _ _ rfl)

/-! ### What a trip adds -/

/-- The area of class `r` of the sample; -/
theorem area_eq (k : Fin k0_t1_loop.trips) (r : Fin 17) : areaCols (planeP m c k) (ix2 r 0) = Loss.area (X₀ m c) (trip k) r := by
  rw [areaCols_apply]
  simp only [planeP_apply]
  exact Loss.sum_fold fun i j => X₀ m c (ix4 (trip k) r i j)
/-- the overlap; -/
theorem overlap_eq (k : Fin k0_t1_loop.trips) (r : Fin 17) :
    overCols (planeP m c k) (planeG m c k) (ix2 r 0) = Loss.overlap (X₀ m c) (Y₀ m c) (trip k) r := by
  rw [overCols_apply]
  simp only [planeP_apply, planeG_apply]
  exact Loss.sum_fold fun i j => Y₀ m c (ix4 (trip k) r i j) * X₀ m c (ix4 (trip k) r i j)
/-- the largest element. -/
theorem peak_eq (k : Fin k0_t1_loop.trips) (r : Fin 17) : k0_pay1 (maxCols (planeG m c k)) (ix2 r 0) = Loss.peak (Y₀ m c) (trip k) r := by
  rw [maxCols_apply]
  simp only [planeG_apply]
  exact Loss.iSup_fold fun i j => Y₀ m c (ix4 (trip k) r i j)

/-- The accumulators before trip `n`. -/
def acc (n : ℕ) : Acc (F := Ideal) :=
  accAt c (V m c main_call0_v0) (V m c main_call0_v1) (st0 t0_0) ((st0 t0_0).view.rep (iblk m c 0 t0_0)) n

/-- A trip is one step on its planes and its label. -/
theorem acc_succ (k : Fin k0_t1_loop.trips) :
    acc m c (k.val + 1) = stepVal (planeP m c k) (planeG m c k) (L₀ m c (trip k)) (acc m c k.val).1 (acc m c k.val).2 := by
  rw [← labWord_eq]
  exact accAt_succ _ _ _ _ _ _

/-- Trip `k` adds the terms of sample `k` to the first accumulator; -/
theorem acc_total (k : Fin k0_t1_loop.trips) (r : Fin 17) :
    (acc m c (k.val + 1)).1 (ix2 r 0) = (acc m c k.val).1 (ix2 r 0) + Loss.term (X₀ m c) (Y₀ m c) (L₀ m c) (trip k) r := by
  rw [acc_succ]
  refine (pay2_apply _ _ _ _ _ r).trans ?_
  rw [peak_eq, area_eq, overlap_eq]
  rfl
/-- and one to the second, where the sample counts. -/
theorem acc_count (k : Fin k0_t1_loop.trips) :
    (acc m c (k.val + 1)).2 (ix2 0 0) = (acc m c k.val).2 (ix2 0 0) + if (⨆ r, Loss.peak (Y₀ m c) (trip k) r) ≠ 0 then 1 else 0 := by
  rw [acc_succ]
  refine (pay3_apply _ _).trans ?_
  simp only [peak_eq]

/-- What 32 steps that each add `f k` make of 0. -/
theorem sum_of_steps (a : ℕ → EReal) (f : Fin 32 → EReal) (h0 : a 0 = 0) (h : ∀ k : Fin 32, a (k.val + 1) = a k.val + f k) :
    a 32 = ∑ k, f k := by
  have : ∀ n (hn : n ≤ 32), a n = ∑ k : Fin n, f (k.castLE hn) := by
    intro n
    induction n with
    | zero => intro _; simp [h0]
    | succ n ih =>
      intro hn
      rw [Fin.sum_univ_castSucc, h ⟨n, hn⟩]
      exact congrArg (· + f ⟨n, hn⟩) (ih (by omega))
  exact this 32 le_rfl

/-- After the last trip the first accumulator holds the sums of the terms over the samples, -/
theorem acc_total_end (r : Fin 17) : (acc m c 32).1 (ix2 r 0) = ∑ b : Fin 32, Loss.term (X₀ m c) (Y₀ m c) (L₀ m c) b r := by
  refine sum_of_steps (fun n => (acc m c n).1 (ix2 r 0)) _ ?_ fun k => acc_total m c k r
  show Ideal.ofBits .f32 0x00000000#32 = 0
  exact Ideal.ofBits_zero_f32
/-- and the second how many samples count. -/
theorem acc_count_end : (acc m c 32).2 (ix2 0 0) = ∑ b : Fin 32, if (⨆ r, Loss.peak (Y₀ m c) b r) ≠ 0 then 1 else 0 := by
  refine sum_of_steps (fun n => (acc m c n).2 (ix2 0 0)) _ ?_ fun k => acc_count m c k
  show Ideal.ofBits .f32 0x00000000#32 = 0
  exact Ideal.ofBits_zero_f32

/-- The program's result is the loss of its arguments. -/
theorem result_eq (hY : ∀ i, 0 ≤ Y₀ m c i) : result m c = fun _ => Loss.loss (X₀ m c) (Y₀ m c) (L₀ m c) := by
  funext j
  have h1 : result m c j = outAt m c t0_0 (ix2 0 0) := by
    unfold result
    rw [Pointwise.shapeCast_apply]
    exact congrArg _ (idx_one _ _)
  have h2 : outAt m c t0_0 = k0_pay4 (acc m c 32).1 (acc m c 32).2 := by
    unfold outAt outVal acc
    rfl
  rw [h1, h2, pay4_apply]
  simp only [acc_total_end, acc_count_end, Loss.iSup_peak_ne_zero (Y₀ m c) hY]
  rw [Finset.sum_comm, Finset.sum_boole]
  rfl

end Cert.Proof.KernelIdeal

end
-- ==== Proof.RefValue.lean ====
/-
  The reference read as mathematics: its run ends with the loss of its arguments, over the extended reals.
-/
module

public import proofs.«01_k».proof.Proof.Loss
public import proofs.«01_k».proof.Proof.Gen.ReferenceIdeal.Run
public import Idealize.ShloMosaic.Lib.Pointwise
public import Idealize.ShloMosaic.Lib.IdealHost
public import Idealize.ShloMosaic.Lib.IndicatorCount

@[expose] public section

noncomputable section

namespace Cert.Proof.Reference

open Cert.ReferenceIdeal Cert.ReferenceIdeal.Gen
open Idealize.ShloMosaic Idealize.ShloMosaic.TcCoe Idealize.SL.Sem

variable (X Y : FVec Ideal S32x17x256x256 .f32) (L : IVec S32 32)

/-- The sums of the planes, -/
def areas : FVec Ideal S32x17 .f32 := Host.reduceAdd X (constant S_ .f32 0x00000000#32) reducesTo_S32x17x256x256_S32x17_d2_3 h_S_
/-- of their products, -/
def overlaps : FVec Ideal S32x17 .f32 := Host.dotGeneral dot_S32x17x256x256_S32x17x256x256_S32x17_23_23_n_n_01_01 none Y X
/-- their largest elements, -/
def peaks : FVec Ideal S32x17 .f32 :=
  Host.reduce FloatOps.maximumf Y (constant S_ .f32 0xFF800000#32) reducesTo_S32x17x256x256_S32x17_d2_3 h_S_
/-- which of those are nonzero, -/
def valid : IVec S32x17 1 := cmpf .une (peaks Y) (broadcastInDim S32x17 ![] bcast_S_S32x17 (constant S_ .f32 0x00000000#32))
/-- the weights, -/
def weights : FVec Ideal S32x17 .f32 :=
  id (select (cmpi .eq (broadcastInDim S32x17 ![0, 1] bcast_S32x1_S32x17_0_1 (broadcastInDim S32x1 ![0] bcast_S32_S32x1_0 L))
      (broadcastInDim S32x17 ![0, 1] bcast_S1x17_S32x17_0_1 (broadcastInDim S1x17 ![1] bcast_S17_S1x17_1 (iotaInDim S17 32 0))))
    (broadcastInDim S32x17 ![] bcast_S_S32x17 (constant S_ .f32 0x3F800000#32))
    (broadcastInDim S32x17 ![] bcast_S_S32x17 (constant S_ .f32 0x3D70F0F1#32)))
/-- the contributions, -/
def terms : FVec Ideal S32x17 .f32 :=
  mulf (mulf (Host.divf (subf (areas X) (overlaps X Y))
    (addf (overlaps X Y) (broadcastInDim S32x17 ![] bcast_S_S32x17 (constant S_ .f32 0x358637BD#32)))) (weights L)) (uitofp .f32 (valid Y))
/-- their sum, -/
def totals : FVec Ideal S_ .f32 := Host.reduceAdd (terms X Y L) (constant S_ .f32 0x00000000#32) reducesTo_S32x17_S_d0_1 h_S_
/-- and the number of samples with a nonzero largest element. -/
def counts : IVec S_ 32 :=
  Host.reduce IntOp.addi (extui 32 (Host.reduce IntOp.ori (valid Y) (constantI S_ 1 0#1) reducesTo_S32x17_S32_d1 h_S_) natLt_1_32)
    (constantI S_ 32 0#32) reducesTo_S32_S_d0 h_S_

/-- The reference's areas, -/
theorem areas_apply (b : Fin 32) (c : Fin 17) : areas X (ix2 b c) = Loss.area X b c := by
  unfold areas Loss.area
  simp only [pointwise]
  simp

/-- overlaps, -/
theorem overlaps_apply (b : Fin 32) (c : Fin 17) : overlaps X Y (ix2 b c) = Loss.overlap X Y b c := by
  unfold overlaps Loss.overlap
  simp only [Host.dotGeneral, pointwise]
  simp

/-- largest elements, -/
theorem peaks_apply (b : Fin 32) (c : Fin 17) : peaks Y (ix2 b c) = Loss.peak Y b c := by
  unfold peaks Loss.peak
  simp only [pointwise]
  rw [Loss.ofBits_negInf, Loss.fold_max_eq_iSup, iSup_prod]

/-- weights, -/
theorem weights_apply (b : Fin 32) (c : Fin 17) : weights L (ix2 b c) = Loss.weight (L (ix1 b)) c := by
  unfold weights
  simp only [pointwise, id]
  rw [Loss.weight_eq]
  exact Loss.select_eq _ _ _ _

/-- Whether an element is nonzero, as a bit. -/
theorem nonzero_apply (P : FVec Ideal S32x17 .f32) (j : S32x17.Idx) :
    cmpf .une P (broadcastInDim S32x17 ![] bcast_S_S32x17 (constant S_ .f32 0x00000000#32)) j = BitVec.ofBool (decide (P j ≠ 0)) := by
  simp only [pointwise]

/-- bits of the classes present, -/
theorem valid_apply (b : Fin 32) (c : Fin 17) : valid Y (ix2 b c) = BitVec.ofBool (decide (Loss.peak Y b c ≠ 0)) := by
  unfold valid
  rw [nonzero_apply, peaks_apply]

/-- A number times a bit read as a number is the number or nothing. -/
theorem mul_bit (x : EReal) (p : Prop) [Decidable p] : x * FloatOps.uitofp (F := Ideal) FTy.f32 (BitVec.ofBool (decide p)) = if p then x else 0 := by
  by_cases h : p
  · simp only [h, decide_true, BitVec.ofBool_true, if_true]
    show x * (((1#1 : BitVec 1).toNat : ℝ) : EReal) = x
    simp
  · simp only [h, decide_false, BitVec.ofBool_false, if_false]
    show x * (((0#1 : BitVec 1).toNat : ℝ) : EReal) = 0
    simp

/-- terms, -/
theorem terms_apply (b : Fin 32) (c : Fin 17) : terms X Y L (ix2 b c) = Loss.term X Y (fun b => L (ix1 b)) b c := by
  unfold terms
  simp only [pointwise, areas_apply, overlaps_apply, weights_apply, valid_apply]
  rw [mul_bit]
  rfl

/-- total of the terms, -/
theorem totals_apply (j : S_.Idx) : totals X Y L j = Loss.total X Y (fun b => L (ix1 b)) := by
  unfold totals Loss.total
  simp only [pointwise, terms_apply]
  rw [zero_add]

/-- A disjunction of bits is one when one of them is. -/
theorem fold_ori {ι : Type} (S : Finset ι) (p : ι → BitVec 1) : S.fold IntOp.ori (0#1) p = 1#1 ↔ ∃ k ∈ S, p k = 1#1 := by
  classical
  induction S using Finset.induction_on with
  | empty => simp
  | insert a S ha ih =>
    rw [Finset.fold_insert ha]
    generalize S.fold IntOp.ori (0#1) p = q at ih
    have h : ∀ x y : BitVec 1, IntOp.ori x y = 1#1 ↔ x = 1#1 ∨ y = 1#1 := by decide
    rw [h, ih]
    simp

/-- and count of samples, each as the mathematics has it. -/
theorem counts_apply (j : S_.Idx) : counts Y j = BitVec.ofNat 32 (Loss.count Y) := by
  unfold counts Loss.count
  simp only [pointwise, valid_apply]
  rw [IndicatorCount.fold_addi_setWidth_eq_card]
  congr 2
  refine Finset.filter_congr fun b _ => ?_
  rw [fold_ori]
  simp only [Finset.mem_univ, true_and]
  refine exists_congr fun c => ?_
  by_cases h : Loss.peak Y b c = 0 <;> simp [h]

/-- The larger of a count of at most 32 and one, as a word and then as a number. -/
theorem max_count (n : ℕ) (hn : n ≤ 32) : FloatOps.sitofp (F := Ideal) FTy.f32 (IntOp.maxsi (BitVec.ofNat 32 n) 1#32) = max (n : EReal) 1 := by
  have h : (IntOp.maxsi (BitVec.ofNat 32 n) 1#32).toInt = max (n : ℤ) 1 := by
    revert n; decide
  show (((IntOp.maxsi (BitVec.ofNat 32 n) 1#32).toInt : ℝ) : EReal) = _
  rw [h]
  push_cast
  rfl

/-- The reference's result. -/
theorem result_eq : select (cmpf .oeq (totals X Y L) (constant S_ .f32 0x00000000#32)) (constant S_ .f32 0x00000000#32)
      (Host.divf (Host.log (totals X Y L)) (sitofp .f32 (maxsi (counts Y) (constantI S_ 32 1#32))))
    = fun _ => Loss.loss X Y (fun b => L (ix1 b)) := by
  funext j
  simp only [pointwise, totals_apply, counts_apply]
  rw [max_count (Loss.count Y) ((Finset.card_le_univ _).trans_eq (Fintype.card_fin 32))]
  rfl

/-- The reference's run: its result the loss of its arguments, its arguments unchanged. -/
theorem run_end (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v29) = (fun _ => Loss.loss (m ((c.tc : Thread nD τ).loc main_arg0))
        (m ((c.tc : Thread nD τ).loc main_arg1)) (fun b => m ((c.tc : Thread nD τ).loc main_arg2) (ix1 b)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (result_eq _ _ _), (h c).2⟩) (Cert.ReferenceIdeal.Value.run (F := Ideal) m ρ)

end Cert.Proof.Reference

end
-- ==== Proof.lean ====
/-
  The proof of `Cert.Claim` (proofs.«01_k».proof.Defs): the program's, its idealization's and the reference's runs
  leave their arguments and every semaphore counter as they found them, the idealization rewrites nothing, and over the
  extended reals the program's result is the reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_nonneg
public import proofs.«01_k».proof.Proof.IdealFrame
public import proofs.«01_k».proof.Proof.BitsFrame
public import proofs.«01_k».proof.Proof.IdealValue
public import proofs.«01_k».proof.Proof.RefValue
public import Idealize.ShloMosaic.Lib.ReduceAll
public import Idealize.ShloMosaic.Adequacy
public import Idealize.ShloMosaic.Init

@[expose] public section

noncomputable section

namespace Cert.Proof

open Idealize.ShloMosaic Idealize.SL.Sem

/-- The program, its floats words. -/
theorem frame_bits : Cert.quiescent_Kernel := fun m ρ _ =>
  (θ_run Cert.Kernel.defs _ _).mono (fun _ h => ⟨fun c => (h.1 c).2, h.2⟩) (Cert.Proof.Kernel.run_end (F := Bits) m ρ)

/-- The idealized program, its floats extended reals. -/
theorem frame_ideal : Cert.quiescent_KernelIdeal := fun m ρ _ =>
  (θ_run Cert.KernelIdeal.defs _ _).mono (fun _ h => ⟨fun c => (h.1 c).2, h.2⟩) (Cert.Proof.KernelIdeal.run_end (F := Ideal) m ρ)

/-- The reference, its floats extended reals; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The precondition read at an element: the second argument has no negative element. -/
theorem nonneg_of_pre (X Y : Loss.Arr) (L : IVec Cert.Pre_nonneg.S32 32) (h : Cert.Pre_nonneg.fn (F := Ideal) X Y L = fun _ => 1#1)
    (i : Cert.Pre_nonneg.S32x17x256x256.Idx) : 0 ≤ Y i := by
  have h' := congrFun h (fun a => a.elim0)
  unfold Cert.Pre_nonneg.fn at h'
  dsimp only at h'
  have hi := Host.reduce_andi_all _ _ _ _ _ h' i
  simp only [pointwise] at hi
  by_contra hn
  simp [hn] at hi

/-- Over the extended reals, where the second argument has no negative element, the program and the reference end with
    the same result: the loss of the arguments. -/
theorem algebraic : Cert.algebraic_KernelIdeal_ReferenceIdeal_pre_nonneg := fun m ρ m' ρ' hP hm => by
  have hY : ∀ c i, 0 ≤ Cert.Proof.KernelIdeal.Y₀ m c i := fun c i => nonneg_of_pre _ _ _ (hP c) i
  refine ⟨fun c _ => Loss.loss (Cert.Proof.KernelIdeal.X₀ m c) (Cert.Proof.KernelIdeal.Y₀ m c) (Cert.Proof.KernelIdeal.L₀ m c), ?_, ?_⟩
  · exact (θ_run Cert.KernelIdeal.defs _ _).mono
      (fun _ h c => ⟨(h.1 c).1.trans (Cert.Proof.KernelIdeal.result_eq m c (hY c)), (h.1 c).2⟩)
      (Cert.Proof.KernelIdeal.run_end (F := Ideal) m ρ)
  · refine (θ_run Cert.ReferenceIdeal.defs _ _).mono (fun _ h c => ⟨(h c).1.trans ?_, (h c).2⟩) (Cert.Proof.Reference.run_end m' ρ')
    obtain ⟨h0, h1, h2⟩ := hm c
    rw [h0, h1, h2]
    rfl

/-- Everything claimed. -/
theorem claim : Cert.Claim :=
  ⟨Cert.Kernel.Gen.facts, Cert.KernelIdeal.Gen.facts, Cert.ReferenceIdeal.Gen.facts, Cert.Pre_nonneg.Gen.facts,
    frame_bits, frame_ideal, fun m ρ _ => frame_ideal m ρ trivial, frame_reference, fun m ρ _ => frame_reference m ρ trivial,
    trivial, algebraic⟩

end Cert.Proof

end
